-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v20)) (v4 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v60)) (v1 : (c : Dev Cert.Kernel10Ideal.nD) → Buf (Elt Ideal) ((c.tc : Thread Cert.Kernel10Ideal.nD Cert.Kernel10Ideal.τ).loc Cert.Kernel10Ideal.main_v61)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v60) = v0 c
          ∧ r.2.mem ((c.tc : Thread Cert.Kernel10Ideal.nD Cert.Kernel10Ideal.τ).loc Cert.Kernel10Ideal.main_v61) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v11) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel10 : Cert.Kernel10.Facts) (hKernel10Ideal : Cert.Kernel10Ideal.Facts) (hReference10Ideal : Cert.Reference10Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel10_Kernel10Ideal
    ∧ algebraic_Kernel10Ideal_Reference10Ideal (hKernel10Ideal := hKernel10Ideal) (hReference10Ideal := hReference10Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel2.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S8192x4096 : Shape := ⟨2, ![8192, 4096]⟩
abbrev S256x4096 : Shape := ⟨2, ![256, 4096]⟩
abbrev S8448x4096 : Shape := ⟨2, ![8448, 4096]⟩
abbrev S4096x12736 : Shape := ⟨2, ![4096, 12736]⟩
abbrev S12736x4096 : Shape := ⟨2, ![12736, 4096]⟩
abbrev S8448x8192 : Shape := ⟨2, ![8448, 8192]⟩
abbrev S1408x4096 : Shape := ⟨2, ![1408, 4096]⟩
abbrev S1408x256 : Shape := ⟨2, ![1408, 256]⟩
abbrev S256x2048 : Shape := ⟨2, ![256, 2048]⟩
abbrev S32x8x16x128 : Shape := ⟨4, ![32, 8, 16, 128]⟩
abbrev S8448x2048 : Shape := ⟨2, ![8448, 2048]⟩
abbrev S8192x2048 : Shape := ⟨2, ![8192, 2048]⟩
abbrev S1x8192x16x128 : Shape := ⟨4, ![1, 8192, 16, 128]⟩
abbrev S1x1x8192x16x128 : Shape := ⟨5, ![1, 1, 8192, 16, 128]⟩
abbrev S1x32x8x16x128 : Shape := ⟨5, ![1, 32, 8, 16, 128]⟩

abbrev nBuf : Space → Nat
  | .hbm => 25
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S8192x4096, .f32⟩
  | .hbm, ⟨4, _⟩ => ⟨S256x4096, .f32⟩
  | .hbm, ⟨5, _⟩ => ⟨S8192x4096, .bf16⟩
  | .hbm, ⟨6, _⟩ => ⟨S256x4096, .bf16⟩
  | .hbm, ⟨7, _⟩ => ⟨S8448x4096, .bf16⟩
  | .hbm, ⟨8, _⟩ => ⟨S4096x12736, .f32⟩
  | .hbm, ⟨9, _⟩ => ⟨S12736x4096, .f32⟩
  | .hbm, ⟨10, _⟩ => ⟨S8448x8192, .f32⟩
  | .hbm, ⟨11, _⟩ => ⟨S256x2048, .f32⟩
  | .hbm, ⟨12, _⟩ => ⟨S32x8x16x128, .f32⟩
  | .hbm, ⟨13, _⟩ => ⟨S256x2048, .f32⟩
  | .hbm, ⟨14, _⟩ => ⟨S32x8x16x128, .f32⟩
  | .hbm, ⟨15, _⟩ => ⟨S8448x2048, .f32⟩
  | .hbm, ⟨16, _⟩ => ⟨S8448x2048, .f32⟩
  | .hbm, ⟨17, _⟩ => ⟨S8192x2048, .f32⟩
  | .hbm, ⟨18, _⟩ => ⟨S1x8192x16x128, .f32⟩
  | .hbm, ⟨19, _⟩ => ⟨S1x1x8192x16x128, .f32⟩
  | .hbm, ⟨20, _⟩ => ⟨S8192x2048, .f32⟩
  | .hbm, ⟨21, _⟩ => ⟨S1x8192x16x128, .f32⟩
  | .hbm, ⟨22, _⟩ => ⟨S1x1x8192x16x128, .f32⟩
  | .hbm, ⟨23, _⟩ => ⟨S1x32x8x16x128, .f32⟩
  | .hbm, ⟨24, _⟩ => ⟨S1x32x8x16x128, .f32⟩
  | .local _ .vmem, ⟨0, _⟩ => ⟨S1408x4096, .bf16⟩
  | .local _ .vmem, ⟨1, _⟩ => ⟨S1408x4096, .bf16⟩
  | .local _ .vmem, ⟨2, _⟩ => ⟨S256x4096, .f32⟩
  | .local _ .vmem, ⟨3, _⟩ => ⟨S256x4096, .f32⟩
  | .local _ .vmem, ⟨4, _⟩ => ⟨S1408x256, .f32⟩
  | .local _ .vmem, ⟨5, _⟩ => ⟨S1408x256, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S8192x4096 : Shape := ⟨2, ![8192, 4096]⟩
abbrev S256x4096 : Shape := ⟨2, ![256, 4096]⟩
abbrev S8448x4096 : Shape := ⟨2, ![8448, 4096]⟩
abbrev S4096x12736 : Shape := ⟨2, ![4096, 12736]⟩
abbrev S8448x12736 : Shape := ⟨2, ![8448, 12736]⟩
abbrev S8448x8192 : Shape := ⟨2, ![8448, 8192]⟩
abbrev S8448x2048 : Shape := ⟨2, ![8448, 2048]⟩
abbrev S8192x2048 : Shape := ⟨2, ![8192, 2048]⟩
abbrev S1x8192x16x128 : Shape := ⟨4, ![1, 8192, 16, 128]⟩
abbrev S1x1x8192x16x128 : Shape := ⟨5, ![1, 1, 8192, 16, 128]⟩
abbrev S256x2048 : Shape := ⟨2, ![256, 2048]⟩
abbrev S32x8x16x128 : Shape := ⟨4, ![32, 8, 16, 128]⟩
abbrev S1x32x8x16x128 : Shape := ⟨5, ![1, 32, 8, 16, 128]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S8192x4096, .f32⟩
  | .hbm, ⟨4, _⟩ => ⟨S256x4096, .f32⟩
  | .hbm, ⟨5, _⟩ => ⟨S8448x4096, .f32⟩
  | .hbm, ⟨6, _⟩ => ⟨S4096x12736, .f32⟩
  | .hbm, ⟨7, _⟩ => ⟨S8448x12736, .f32⟩
  | .hbm, ⟨8, _⟩ => ⟨S8448x8192, .f32⟩
  | .hbm, ⟨9, _⟩ => ⟨S8448x2048, .f32⟩
  | .hbm, ⟨10, _⟩ => ⟨S8448x2048, .f32⟩
  | .hbm, ⟨11, _⟩ => ⟨S8192x2048, .f32⟩
  | .hbm, ⟨12, _⟩ => ⟨S1x8192x16x128, .f32⟩
  | .hbm, ⟨13, _⟩ => ⟨S1x1x8192x16x128, .f32⟩
  | .hbm, ⟨14, _⟩ => ⟨S8192x2048, .f32⟩
  | .hbm, ⟨15, _⟩ => ⟨S1x8192x16x128, .f32⟩
  | .hbm, ⟨16, _⟩ => ⟨S1x1x8192x16x128, .f32⟩
  | .hbm, ⟨17, _⟩ => ⟨S256x2048, .f32⟩
  | .hbm, ⟨18, _⟩ => ⟨S32x8x16x128, .f32⟩
  | .hbm, ⟨19, _⟩ => ⟨S1x32x8x16x128, .f32⟩
  | .hbm, ⟨20, _⟩ => ⟨S256x2048, .f32⟩
  | .hbm, ⟨21, _⟩ => ⟨S32x8x16x128, .f32⟩
  | .hbm, ⟨22, _⟩ => ⟨S1x32x8x16x128, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel3.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S8192x4096 : Shape := ⟨2, ![8192, 4096]⟩
abbrev S256x4096 : Shape := ⟨2, ![256, 4096]⟩
abbrev S8448x4096 : Shape := ⟨2, ![8448, 4096]⟩
abbrev S4096x12736 : Shape := ⟨2, ![4096, 12736]⟩
abbrev S12736x4096 : Shape := ⟨2, ![12736, 4096]⟩
abbrev S_ : Shape := ⟨0, ![]⟩
abbrev S32x4096 : Shape := ⟨2, ![32, 4096]⟩
abbrev S4096x4096 : Shape := ⟨2, ![4096, 4096]⟩
abbrev S96x4096 : Shape := ⟨2, ![96, 4096]⟩
abbrev S4608x4096 : Shape := ⟨2, ![4608, 4096]⟩
abbrev S8448x4608 : Shape := ⟨2, ![8448, 4608]⟩
abbrev S768x4096 : Shape := ⟨2, ![768, 4096]⟩
abbrev S512x4096 : Shape := ⟨2, ![512, 4096]⟩
abbrev S768x512 : Shape := ⟨2, ![768, 512]⟩

abbrev nBuf : Space → Nat
  | .hbm => 18
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S8192x4096, .f32⟩
  | .hbm, ⟨4, _⟩ => ⟨S256x4096, .f32⟩
  | .hbm, ⟨5, _⟩ => ⟨S8192x4096, .bf16⟩
  | .hbm, ⟨6, _⟩ => ⟨S256x4096, .bf16⟩
  | .hbm, ⟨7, _⟩ => ⟨S8448x4096, .bf16⟩
  | .hbm, ⟨8, _⟩ => ⟨S4096x12736, .f32⟩
  | .hbm, ⟨9, _⟩ => ⟨S12736x4096, .f32⟩
  | .hbm, ⟨10, _⟩ => ⟨S_, .f32⟩
  | .hbm, ⟨11, _⟩ => ⟨S32x4096, .f32⟩
  | .hbm, ⟨12, _⟩ => ⟨S4096x4096, .f32⟩
  | .hbm, ⟨13, _⟩ => ⟨S96x4096, .f32⟩
  | .hbm, ⟨14, _⟩ => ⟨S96x4096, .f32⟩
  | .hbm, ⟨15, _⟩ => ⟨S256x4096, .f32⟩
  | .hbm, ⟨16, _⟩ => ⟨S4608x4096, .f32⟩
  | .hbm, ⟨17, _⟩ => ⟨S8448x4608, .f32⟩
  | .local _ .vmem, ⟨0, _⟩ => ⟨S768x4096, .bf16⟩
  | .local _ .vmem, ⟨1, _⟩ => ⟨S768x4096, .bf16⟩
  | .local _ .vmem, ⟨2, _⟩ => ⟨S512x4096, .f32⟩
  | .local _ .vmem, ⟨3, _⟩ => ⟨S512x4096, .f32⟩
  | .local _ .vmem, ⟨4, _⟩ => ⟨S768x512, .f32⟩
  | .local _ .vmem, ⟨5, _⟩ => ⟨S768x512, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S8192x4096 : Shape := ⟨2, ![8192, 4096]⟩
abbrev S256x4096 : Shape := ⟨2, ![256, 4096]⟩
abbrev S8448x4096 : Shape := ⟨2, ![8448, 4096]⟩
abbrev S4096x12736 : Shape := ⟨2, ![4096, 12736]⟩
abbrev S8448x12736 : Shape := ⟨2, ![8448, 12736]⟩
abbrev S8448x6592 : Shape := ⟨2, ![8448, 6592]⟩
abbrev S8448x2048 : Shape := ⟨2, ![8448, 2048]⟩
abbrev S8448x96 : Shape := ⟨2, ![8448, 96]⟩
abbrev S8448x256 : Shape := ⟨2, ![8448, 256]⟩
abbrev S_ : Shape := ⟨0, ![]⟩
abbrev S8448x32 : Shape := ⟨2, ![8448, 32]⟩
abbrev S8448x4608 : Shape := ⟨2, ![8448, 4608]⟩

abbrev nBuf : Space → Nat
  | .hbm => 18
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S8192x4096, .f32⟩
  | .hbm, ⟨4, _⟩ => ⟨S256x4096, .f32⟩
  | .hbm, ⟨5, _⟩ => ⟨S8448x4096, .f32⟩
  | .hbm, ⟨6, _⟩ => ⟨S4096x12736, .f32⟩
  | .hbm, ⟨7, _⟩ => ⟨S8448x12736, .f32⟩
  | .hbm, ⟨8, _⟩ => ⟨S8448x6592, .f32⟩
  | .hbm, ⟨9, _⟩ => ⟨S8448x2048, .f32⟩
  | .hbm, ⟨10, _⟩ => ⟨S8448x96, .f32⟩
  | .hbm, ⟨11, _⟩ => ⟨S8448x2048, .f32⟩
  | .hbm, ⟨12, _⟩ => ⟨S8448x2048, .f32⟩
  | .hbm, ⟨13, _⟩ => ⟨S8448x96, .f32⟩
  | .hbm, ⟨14, _⟩ => ⟨S8448x256, .f32⟩
  | .hbm, ⟨15, _⟩ => ⟨S_, .f32⟩
  | .hbm, ⟨16, _⟩ => ⟨S8448x32, .f32⟩
  | .hbm, ⟨17, _⟩ => ⟨S8448x4608, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel10.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S1 : Shape := ⟨1, ![1]⟩
abbrev S8192x4096 : Shape := ⟨2, ![8192, 4096]⟩
abbrev S256x4096 : Shape := ⟨2, ![256, 4096]⟩
abbrev S8448x4096 : Shape := ⟨2, ![8448, 4096]⟩
abbrev S4096x12736 : Shape := ⟨2, ![4096, 12736]⟩
abbrev S12736x4096 : Shape := ⟨2, ![12736, 4096]⟩
abbrev S_ : Shape := ⟨0, ![]⟩
abbrev S32x4096 : Shape := ⟨2, ![32, 4096]⟩
abbrev S4096x4096 : Shape := ⟨2, ![4096, 4096]⟩
abbrev S96x4096 : Shape := ⟨2, ![96, 4096]⟩
abbrev S4608x4096 : Shape := ⟨2, ![4608, 4096]⟩
abbrev S8448x8192 : Shape := ⟨2, ![8448, 8192]⟩
abbrev S1408x4096 : Shape := ⟨2, ![1408, 4096]⟩
abbrev S1408x256 : Shape := ⟨2, ![1408, 256]⟩
abbrev S8448x4608 : Shape := ⟨2, ![8448, 4608]⟩
abbrev S768x4096 : Shape := ⟨2, ![768, 4096]⟩
abbrev S512x4096 : Shape := ⟨2, ![512, 4096]⟩
abbrev S768x512 : Shape := ⟨2, ![768, 512]⟩
abbrev S1x1 : Shape := ⟨2, ![1, 1]⟩
abbrev S1x8192 : Shape := ⟨2, ![1, 8192]⟩
abbrev S1x4608 : Shape := ⟨2, ![1, 4608]⟩
abbrev S1x2048 : Shape := ⟨2, ![1, 2048]⟩
abbrev S1x96 : Shape := ⟨2, ![1, 96]⟩
abbrev S1x4096 : Shape := ⟨2, ![1, 4096]⟩
abbrev S1x256 : Shape := ⟨2, ![1, 256]⟩
abbrev S1x6592 : Shape := ⟨2, ![1, 6592]⟩
abbrev S32 : Shape := ⟨1, ![32]⟩
abbrev S32x1 : Shape := ⟨2, ![32, 1]⟩
abbrev S32x8192 : Shape := ⟨2, ![32, 8192]⟩
abbrev S32x4608 : Shape := ⟨2, ![32, 4608]⟩
abbrev S32x2048 : Shape := ⟨2, ![32, 2048]⟩
abbrev S32x96 : Shape := ⟨2, ![32, 96]⟩
abbrev S32x256 : Shape := ⟨2, ![32, 256]⟩
abbrev S32x6592 : Shape := ⟨2, ![32, 6592]⟩
abbrev S1x1x6592 : Shape := ⟨3, ![1, 1, 6592]⟩
abbrev S1x32x6592 : Shape := ⟨3, ![1, 32, 6592]⟩

abbrev nBuf : Space → Nat
  | .hbm => 77
  | .vmem => 12
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S1, .i32⟩
  | .hbm, ⟨4, _⟩ => ⟨S8192x4096, .f32⟩
  | .hbm, ⟨5, _⟩ => ⟨S256x4096, .f32⟩
  | .hbm, ⟨6, _⟩ => ⟨S8192x4096, .bf16⟩
  | .hbm, ⟨7, _⟩ => ⟨S256x4096, .bf16⟩
  | .hbm, ⟨8, _⟩ => ⟨S8448x4096, .bf16⟩
  | .hbm, ⟨9, _⟩ => ⟨S4096x12736, .f32⟩
  | .hbm, ⟨10, _⟩ => ⟨S12736x4096, .f32⟩
  | .hbm, ⟨11, _⟩ => ⟨S_, .f32⟩
  | .hbm, ⟨12, _⟩ => ⟨S32x4096, .f32⟩
  | .hbm, ⟨13, _⟩ => ⟨S4096x4096, .f32⟩
  | .hbm, ⟨14, _⟩ => ⟨S96x4096, .f32⟩
  | .hbm, ⟨15, _⟩ => ⟨S96x4096, .f32⟩
  | .hbm, ⟨16, _⟩ => ⟨S256x4096, .f32⟩
  | .hbm, ⟨17, _⟩ => ⟨S4608x4096, .f32⟩
  | .hbm, ⟨18, _⟩ => ⟨S8448x8192, .f32⟩
  | .hbm, ⟨19, _⟩ => ⟨S8448x4608, .f32⟩
  | .hbm, ⟨20, _⟩ => ⟨S_, .i32⟩
  | .hbm, ⟨21, _⟩ => ⟨S1, .i32⟩
  | .hbm, ⟨22, _⟩ => ⟨S1, .i1⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S1, .i32⟩
  | .hbm, ⟨27, _⟩ => ⟨S1x1, .i32⟩
  | .hbm, ⟨28, _⟩ => ⟨S1x8192, .f32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1x1, .i32⟩
  | .hbm, ⟨37, _⟩ => ⟨S1x4608, .f32⟩
  | .hbm, ⟨38, _⟩ => ⟨S1x2048, .f32⟩
  | .hbm, ⟨39, _⟩ => ⟨S1x96, .f32⟩
  | .hbm, ⟨40, _⟩ => ⟨S1x4096, .f32⟩
  | .hbm, ⟨41, _⟩ => ⟨S1x96, .f32⟩
  | .hbm, ⟨42, _⟩ => ⟨S1x256, .f32⟩
  | .hbm, ⟨43, _⟩ => ⟨S1x6592, .f32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i1⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32, .i32⟩
  | .hbm, ⟨58, _⟩ => ⟨S32x1, .i32⟩
  | .hbm, ⟨59, _⟩ => ⟨S32x8192, .f32⟩
  | .hbm, ⟨60, _⟩ => ⟨S_, .i32⟩
  | .hbm, ⟨61, _⟩ => ⟨S32, .i32⟩
  | .hbm, ⟨62, _⟩ => ⟨S32, .i1⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S32, .i32⟩
  | .hbm, ⟨67, _⟩ => ⟨S32x1, .i32⟩
  | .hbm, ⟨68, _⟩ => ⟨S32x4608, .f32⟩
  | .hbm, ⟨69, _⟩ => ⟨S32x2048, .f32⟩
  | .hbm, ⟨70, _⟩ => ⟨S32x96, .f32⟩
  | .hbm, ⟨71, _⟩ => ⟨S32x4096, .f32⟩
  | .hbm, ⟨72, _⟩ => ⟨S32x96, .f32⟩
  | .hbm, ⟨73, _⟩ => ⟨S32x256, .f32⟩
  | .hbm, ⟨74, _⟩ => ⟨S32x6592, .f32⟩
  | .hbm, ⟨75, _⟩ => ⟨S1x1x6592, .f32⟩
  | .hbm, ⟨76, _⟩ => ⟨S1x32x6592, .f32⟩
  | .local _ .vmem, ⟨0, _⟩ => ⟨S1408x4096, .bf16⟩
  | .local _ .vmem, ⟨1, _⟩ => ⟨S1408x4096, .bf16⟩
  | .local _ .vmem, ⟨2, _⟩ => ⟨S256x4096, .f32⟩
  | .local _ .vmem, ⟨3, _⟩ => ⟨S256x4096, .f32⟩
  | .local _ .vmem, ⟨4, _⟩ => ⟨S1408x256, .f32⟩
  | .local _ .vmem, ⟨5, _⟩ => ⟨S1408x256, .f32⟩
  | .local _ .vmem, ⟨6, _⟩ => ⟨S768x4096, .bf16⟩
  | .local _ .vmem, ⟨7, _⟩ => ⟨S768x4096, .bf16⟩
  | .local _ .vmem, ⟨8, _⟩ => ⟨S512x4096, .f32⟩
  | .local _ .vmem, ⟨9, _⟩ => ⟨S512x4096, .f32⟩
  | .local _ .vmem, ⟨10, _⟩ => ⟨S768x512, .f32⟩
  | .local _ .vmem, ⟨11, _⟩ => ⟨S768x512, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_c_6 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![11, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S768x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S768x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference10Ideal.lean ====
abbrev S1x8192x4096 : Shape := ⟨3, ![1, 8192, 4096]⟩
abbrev S32x8x4096 : Shape := ⟨3, ![32, 8, 4096]⟩
abbrev S1x4096x12736 : Shape := ⟨3, ![1, 4096, 12736]⟩
abbrev S4096x12736 : Shape := ⟨2, ![4096, 12736]⟩
abbrev S1x8192x12736 : Shape := ⟨3, ![1, 8192, 12736]⟩
abbrev S1x8192x6592 : Shape := ⟨3, ![1, 8192, 6592]⟩
abbrev S1x1x6592 : Shape := ⟨3, ![1, 1, 6592]⟩
abbrev S1x6592 : Shape := ⟨2, ![1, 6592]⟩
abbrev S32x8x12736 : Shape := ⟨3, ![32, 8, 12736]⟩
abbrev S32x8x6592 : Shape := ⟨3, ![32, 8, 6592]⟩
abbrev S32x1x6592 : Shape := ⟨3, ![32, 1, 6592]⟩
abbrev S32x6592 : Shape := ⟨2, ![32, 6592]⟩
abbrev S1x32x6592 : Shape := ⟨3, ![1, 32, 6592]⟩

abbrev nBuf : Space → Nat
  | .hbm => 15
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S1x4096x12736, .f32⟩
  | .hbm, ⟨3, _⟩ => ⟨S4096x12736, .f32⟩
  | .hbm, ⟨4, _⟩ => ⟨S1x8192x12736, .f32⟩
  | .hbm, ⟨5, _⟩ => ⟨S1x8192x6592, .f32⟩
  | .hbm, ⟨6, _⟩ => ⟨S1x1x6592, .f32⟩
  | .hbm, ⟨7, _⟩ => ⟨S1x6592, .f32⟩
  | .hbm, ⟨8, _⟩ => ⟨S1x1x6592, .f32⟩
  | .hbm, ⟨9, _⟩ => ⟨S4096x12736, .f32⟩
  | .hbm, ⟨10, _⟩ => ⟨S32x8x12736, .f32⟩
  | .hbm, ⟨11, _⟩ => ⟨S32x8x6592, .f32⟩
  | .hbm, ⟨12, _⟩ => ⟨S32x1x6592, .f32⟩
  | .hbm, ⟨13, _⟩ => ⟨S32x6592, .f32⟩
  | .hbm, ⟨14, _⟩ => ⟨S1x32x6592, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S1x8192x4096 : Shape := ⟨3, ![1, 8192, 4096]⟩
abbrev S32x8x4096 : Shape := ⟨3, ![32, 8, 4096]⟩
abbrev S8448x2048 : Shape := ⟨2, ![8448, 2048]⟩
abbrev S1x4096x8192 : Shape := ⟨3, ![1, 4096, 8192]⟩
abbrev S1x8192 : Shape := ⟨2, ![1, 8192]⟩
abbrev S1x2048x4096 : Shape := ⟨3, ![1, 2048, 4096]⟩
abbrev S8192x4096 : Shape := ⟨2, ![8192, 4096]⟩
abbrev S256x4096 : Shape := ⟨2, ![256, 4096]⟩
abbrev S8448x4096 : Shape := ⟨2, ![8448, 4096]⟩
abbrev S4096x8192 : Shape := ⟨2, ![4096, 8192]⟩
abbrev S8192 : Shape := ⟨1, ![8192]⟩
abbrev S2048x4096 : Shape := ⟨2, ![2048, 4096]⟩
abbrev S768x4096 : Shape := ⟨2, ![768, 4096]⟩
abbrev S768x2048 : Shape := ⟨2, ![768, 2048]⟩
abbrev S4096x256 : Shape := ⟨2, ![4096, 256]⟩
abbrev S1x256 : Shape := ⟨2, ![1, 256]⟩
abbrev S2048x256 : Shape := ⟨2, ![2048, 256]⟩
abbrev S768x256 : Shape := ⟨2, ![768, 256]⟩

abbrev nBuf : Space → Nat
  | .hbm => 24
  | .vmem => 20
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S8448x2048, .f32⟩
  | .hbm, ⟨3, _⟩ => ⟨S8448x2048, .f32⟩
  | .hbm, ⟨4, _⟩ => ⟨S1x4096x8192, .f32⟩
  | .hbm, ⟨5, _⟩ => ⟨S1x8192, .f32⟩
  | .hbm, ⟨6, _⟩ => ⟨S1x2048x4096, .f32⟩
  | .hbm, ⟨7, _⟩ => ⟨S1x2048x4096, .f32⟩
  | .hbm, ⟨8, _⟩ => ⟨S8192x4096, .f32⟩
  | .hbm, ⟨9, _⟩ => ⟨S256x4096, .f32⟩
  | .hbm, ⟨10, _⟩ => ⟨S8192x4096, .bf16⟩
  | .hbm, ⟨11, _⟩ => ⟨S256x4096, .bf16⟩
  | .hbm, ⟨12, _⟩ => ⟨S8448x4096, .bf16⟩
  | .hbm, ⟨13, _⟩ => ⟨S4096x8192, .f32⟩
  | .hbm, ⟨14, _⟩ => ⟨S4096x8192, .bf16⟩
  | .hbm, ⟨15, _⟩ => ⟨S8192, .f32⟩
  | .hbm, ⟨16, _⟩ => ⟨S1x8192, .f32⟩
  | .hbm, ⟨17, _⟩ => ⟨S8448x2048, .bf16⟩
  | .hbm, ⟨18, _⟩ => ⟨S8448x2048, .bf16⟩
  | .hbm, ⟨19, _⟩ => ⟨S2048x4096, .f32⟩
  | .hbm, ⟨20, _⟩ => ⟨S2048x4096, .bf16⟩
  | .hbm, ⟨21, _⟩ => ⟨S2048x4096, .f32⟩
  | .hbm, ⟨22, _⟩ => ⟨S2048x4096, .bf16⟩
  | .hbm, ⟨23, _⟩ => ⟨S8448x4096, .bf16⟩
  | .local _ .vmem, ⟨0, _⟩ => ⟨S768x4096, .bf16⟩
  | .local _ .vmem, ⟨1, _⟩ => ⟨S768x4096, .bf16⟩
  | .local _ .vmem, ⟨2, _⟩ => ⟨S768x2048, .bf16⟩
  | .local _ .vmem, ⟨3, _⟩ => ⟨S768x2048, .bf16⟩
  | .local _ .vmem, ⟨4, _⟩ => ⟨S768x2048, .bf16⟩
  | .local _ .vmem, ⟨5, _⟩ => ⟨S768x2048, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S768x256, .bf16⟩
  | .local _ .vmem, ⟨19, _⟩ => ⟨S768x256, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S1x8192x4096 : Shape := ⟨3, ![1, 8192, 4096]⟩
abbrev S32x8x4096 : Shape := ⟨3, ![32, 8, 4096]⟩
abbrev S8448x2048 : Shape := ⟨2, ![8448, 2048]⟩
abbrev S1x4096x8192 : Shape := ⟨3, ![1, 4096, 8192]⟩
abbrev S1x8192 : Shape := ⟨2, ![1, 8192]⟩
abbrev S1x2048x4096 : Shape := ⟨3, ![1, 2048, 4096]⟩
abbrev S8192x4096 : Shape := ⟨2, ![8192, 4096]⟩
abbrev S256x4096 : Shape := ⟨2, ![256, 4096]⟩
abbrev S8448x4096 : Shape := ⟨2, ![8448, 4096]⟩
abbrev S4096x8192 : Shape := ⟨2, ![4096, 8192]⟩
abbrev S8448x8192 : Shape := ⟨2, ![8448, 8192]⟩
abbrev S8192 : Shape := ⟨1, ![8192]⟩
abbrev S_ : Shape := ⟨0, ![]⟩
abbrev S2048x4096 : Shape := ⟨2, ![2048, 4096]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S8448x2048, .f32⟩
  | .hbm, ⟨3, _⟩ => ⟨S8448x2048, .f32⟩
  | .hbm, ⟨4, _⟩ => ⟨S1x4096x8192, .f32⟩
  | .hbm, ⟨5, _⟩ => ⟨S1x8192, .f32⟩
  | .hbm, ⟨6, _⟩ => ⟨S1x2048x4096, .f32⟩
  | .hbm, ⟨7, _⟩ => ⟨S1x2048x4096, .f32⟩
  | .hbm, ⟨8, _⟩ => ⟨S8192x4096, .f32⟩
  | .hbm, ⟨9, _⟩ => ⟨S256x4096, .f32⟩
  | .hbm, ⟨10, _⟩ => ⟨S8448x4096, .f32⟩
  | .hbm, ⟨11, _⟩ => ⟨S4096x8192, .f32⟩
  | .hbm, ⟨12, _⟩ => ⟨S8448x8192, .f32⟩
  | .hbm, ⟨13, _⟩ => ⟨S8192, .f32⟩
  | .hbm, ⟨14, _⟩ => ⟨S1x8192, .f32⟩
  | .hbm, ⟨15, _⟩ => ⟨S8448x8192, .f32⟩
  | .hbm, ⟨16, _⟩ => ⟨S8448x8192, .f32⟩
  | .hbm, ⟨17, _⟩ => ⟨S8448x8192, .f32⟩
  | .hbm, ⟨18, _⟩ => ⟨S8448x8192, .f32⟩
  | .hbm, ⟨19, _⟩ => ⟨S_, .f32⟩
  | .hbm, ⟨20, _⟩ => ⟨S8448x8192, .f32⟩
  | .hbm, ⟨21, _⟩ => ⟨S8448x8192, .f32⟩
  | .hbm, ⟨22, _⟩ => ⟨S_, .f32⟩
  | .hbm, ⟨23, _⟩ => ⟨S8448x8192, .f32⟩
  | .hbm, ⟨24, _⟩ => ⟨S8448x8192, .f32⟩
  | .hbm, ⟨25, _⟩ => ⟨S8448x4096, .f32⟩
  | .hbm, ⟨26, _⟩ => ⟨S8448x4096, .f32⟩
  | .hbm, ⟨27, _⟩ => ⟨S2048x4096, .f32⟩
  | .hbm, ⟨28, _⟩ => ⟨S8448x4096, .f32⟩
  | .hbm, ⟨29, _⟩ => ⟨S8448x4096, .f32⟩
  | .hbm, ⟨30, _⟩ => ⟨S2048x4096, .f32⟩
  | .hbm, ⟨31, _⟩ => ⟨S8448x4096, .f32⟩
  | .hbm, ⟨32, _⟩ => ⟨S8448x4096, .f32⟩
  | .hbm, ⟨33, _⟩ => ⟨S8448x4096, .f32⟩
  | .hbm, ⟨34, _⟩ => ⟨S8448x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel5.lean ====
abbrev S8448x4096 : Shape := ⟨2, ![8448, 4096]⟩
abbrev S1x4096x4096 : Shape := ⟨3, ![1, 4096, 4096]⟩
abbrev S4096x4096 : Shape := ⟨2, ![4096, 4096]⟩
abbrev S768x4096 : Shape := ⟨2, ![768, 4096]⟩
abbrev S4096x512 : Shape := ⟨2, ![4096, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x4096, .f32⟩
  | .hbm, ⟨1, _⟩ => ⟨S1x4096x4096, .f32⟩
  | .hbm, ⟨2, _⟩ => ⟨S8448x4096, .bf16⟩
  | .hbm, ⟨3, _⟩ => ⟨S4096x4096, .f32⟩
  | .hbm, ⟨4, _⟩ => ⟨S8448x4096, .f32⟩
  | .local _ .vmem, ⟨0, _⟩ => ⟨S768x4096, .bf16⟩
  | .local _ .vmem, ⟨1, _⟩ => ⟨S768x4096, .bf16⟩
  | .local _ .vmem, ⟨2, _⟩ => ⟨S4096x512, .f32⟩
  | .local _ .vmem, ⟨3, _⟩ => ⟨S4096x512, .f32⟩
  | .local _ .vmem, ⟨4, _⟩ => ⟨S768x512, .f32⟩
  | .local _ .vmem, ⟨5, _⟩ => ⟨S768x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8448x4096 : Shape := ⟨2, ![8448, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S1x4096x4096, .f32⟩
  | .hbm, ⟨2, _⟩ => ⟨S4096x4096, .f32⟩
  | .hbm, ⟨3, _⟩ => ⟨S8448x4096, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S1x8192x4096 : Shape := ⟨3, ![1, 8192, 4096]⟩
abbrev S32x8x4096 : Shape := ⟨3, ![32, 8, 4096]⟩
abbrev S8448x4096 : Shape := ⟨2, ![8448, 4096]⟩
abbrev S1x4096 : Shape := ⟨2, ![1, 4096]⟩
abbrev S8192x4096 : Shape := ⟨2, ![8192, 4096]⟩
abbrev S256x4096 : Shape := ⟨2, ![256, 4096]⟩
abbrev S4096 : Shape := ⟨1, ![4096]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S8448x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S256x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S8448x4096, .f32⟩
  | .hbm, ⟨12, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v34 : BitVec 1 := Scalar.cmpi .sge arg0 c0_i32
  let c33_i32 : BitVec 32 := 33#32
  let v35 : BitVec 1 := Scalar.cmpi .slt arg0 c33_i32
  let v36 : BitVec 1 := Scalar.andi v34 v35
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sge arg0 c0_i32_15
  let c33_i32_16 : BitVec 32 := 33#32
  let v40 : BitVec 1 := Scalar.cmpi .slt arg0 c33_i32_16
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c32_i32 : BitVec 32 := 32#32
  let v1 : BitVec 32 := Scalar.maxsi c0_i32_0 v0
  let v2 : BitVec 32 := Scalar.minsi c32_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c32_i32 : BitVec 32 := 32#32
  let v1 : BitVec 32 := Scalar.maxsi c0_i32_0 v0
  let v2 : BitVec 32 := Scalar.minsi c32_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c32_i32 : BitVec 32 := 32#32
  let v1 : BitVec 32 := Scalar.maxsi c0_i32_0 v0
  let v2 : BitVec 32 := Scalar.minsi c32_i32 v1
  let c0_i32_1 : BitVec 32 := 0#32
  let c0_i32_2 : BitVec 32 := 0#32
  ![v2.toNat, c0_i32_1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1x8192x4096 : Shape := ⟨3, ![1, 8192, 4096]⟩
abbrev S32x8x4096 : Shape := ⟨3, ![32, 8, 4096]⟩
abbrev S8448x4096 : Shape := ⟨2, ![8448, 4096]⟩
abbrev S1x4096 : Shape := ⟨2, ![1, 4096]⟩
abbrev S8192x4096 : Shape := ⟨2, ![8192, 4096]⟩
abbrev S256x4096 : Shape := ⟨2, ![256, 4096]⟩
abbrev S_ : Shape := ⟨0, ![]⟩
abbrev S4096 : Shape := ⟨1, ![4096]⟩
abbrev S8448 : Shape := ⟨1, ![8448]⟩
abbrev S8448x1 : Shape := ⟨2, ![8448, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x8x4096, .f32⟩
  | .hbm, ⟨2, _⟩ => ⟨S8448x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S256x4096, .f32⟩
  | .hbm, ⟨7, _⟩ => ⟨S8448x4096, .f32⟩
  | .hbm, ⟨8, _⟩ => ⟨S_, .f32⟩
  | .hbm, ⟨9, _⟩ => ⟨S8448x4096, .f32⟩
  | .hbm, ⟨10, _⟩ => ⟨S8448x4096, .f32⟩
  | .hbm, ⟨11, _⟩ => ⟨S8448x4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x4096, .f32⟩
  | .hbm, ⟨21, _⟩ => ⟨S8448x4096, .f32⟩
  | .hbm, ⟨22, _⟩ => ⟨S8448x4096, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x4096, .f32⟩
  | .hbm, ⟨30, _⟩ => ⟨S8448x4096, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x4096, .f32⟩
  | .hbm, ⟨36, _⟩ => ⟨S8448x4096, .f32⟩
  | .hbm, ⟨37, _⟩ => ⟨S1x4096, .f32⟩
  | .hbm, ⟨38, _⟩ => ⟨S8448x4096, .f32⟩
  | .hbm, ⟨39, _⟩ => ⟨S8448x4096, .f32⟩
  | .hbm, ⟨40, _⟩ => ⟨S1x4096, .f32⟩
  | .hbm, ⟨41, _⟩ => ⟨S8448x4096, .f32⟩
  | .hbm, ⟨42, _⟩ => ⟨S8448x4096, .f32⟩
  | .hbm, ⟨43, _⟩ => ⟨S8448x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel7.lean ====
abbrev S8448x4096 : Shape := ⟨2, ![8448, 4096]⟩
abbrev S1x4096x11008 : Shape := ⟨3, ![1, 4096, 11008]⟩
abbrev S4096x11008 : Shape := ⟨2, ![4096, 11008]⟩
abbrev S8448x11008 : Shape := ⟨2, ![8448, 11008]⟩
abbrev S1408x4096 : Shape := ⟨2, ![1408, 4096]⟩
abbrev S4096x256 : Shape := ⟨2, ![4096, 256]⟩
abbrev S1408x256 : Shape := ⟨2, ![1408, 256]⟩

abbrev nBuf : Space → Nat
  | .hbm => 7
  | .vmem => 8
  | .smem => 0
  | _ => 0

abbrev bufTy : (tb : Table) → Fin (tcTables nBuf tb) → BufTy
  | .hbm, ⟨0, _⟩ => ⟨S8448x4096, .f32⟩
  | .hbm, ⟨1, _⟩ => ⟨S1x4096x11008, .f32⟩
  | .hbm, ⟨2, _⟩ => ⟨S1x4096x11008, .f32⟩
  | .hbm, ⟨3, _⟩ => ⟨S8448x4096, .bf16⟩
  | .hbm, ⟨4, _⟩ => ⟨S4096x11008, .f32⟩
  | .hbm, ⟨5, _⟩ => ⟨S4096x11008, .f32⟩
  | .hbm, ⟨6, _⟩ => ⟨S8448x11008, .bf16⟩
  | .local _ .vmem, ⟨0, _⟩ => ⟨S1408x4096, .bf16⟩
  | .local _ .vmem, ⟨1, _⟩ => ⟨S1408x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1408x256, .bf16⟩
  | .local _ .vmem, ⟨7, _⟩ => ⟨S1408x256, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8448x4096 : Shape := ⟨2, ![8448, 4096]⟩
abbrev S1x4096x11008 : Shape := ⟨3, ![1, 4096, 11008]⟩
abbrev S4096x11008 : Shape := ⟨2, ![4096, 11008]⟩
abbrev S8448x11008 : Shape := ⟨2, ![8448, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S8448x11008, .f32⟩
  | .hbm, ⟨5, _⟩ => ⟨S8448x11008, .f32⟩
  | .hbm, ⟨6, _⟩ => ⟨S8448x11008, .f32⟩
  | .hbm, ⟨7, _⟩ => ⟨S_, .f32⟩
  | .hbm, ⟨8, _⟩ => ⟨S8448x11008, .f32⟩
  | .hbm, ⟨9, _⟩ => ⟨S8448x11008, .f32⟩
  | .hbm, ⟨10, _⟩ => ⟨S_, .f32⟩
  | .hbm, ⟨11, _⟩ => ⟨S8448x11008, .f32⟩
  | .hbm, ⟨12, _⟩ => ⟨S8448x11008, .f32⟩
  | .hbm, ⟨13, _⟩ => ⟨S8448x11008, .f32⟩
  | .hbm, ⟨14, _⟩ => ⟨S4096x11008, .f32⟩
  | .hbm, ⟨15, _⟩ => ⟨S8448x11008, .f32⟩
  | .hbm, ⟨16, _⟩ => ⟨S8448x11008, .f32⟩
  | .hbm, ⟨17, _⟩ => ⟨S8448x11008, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S8448x11008 : Shape := ⟨2, ![8448, 11008]⟩
abbrev S1x11008x4096 : Shape := ⟨3, ![1, 11008, 4096]⟩
abbrev S11008x4096 : Shape := ⟨2, ![11008, 4096]⟩
abbrev S8448x4096 : Shape := ⟨2, ![8448, 4096]⟩
abbrev S768x11008 : Shape := ⟨2, ![768, 11008]⟩
abbrev S11008x256 : Shape := ⟨2, ![11008, 256]⟩
abbrev S768x256 : Shape := ⟨2, ![768, 256]⟩

abbrev nBuf : Space → Nat
  | .hbm => 6
  | .vmem => 6
  | .smem => 0
  | _ => 0

abbrev bufTy : (tb : Table) → Fin (tcTables nBuf tb) → BufTy
  | .hbm, ⟨0, _⟩ => ⟨S8448x11008, .f32⟩
  | .hbm, ⟨1, _⟩ => ⟨S1x11008x4096, .f32⟩
  | .hbm, ⟨2, _⟩ => ⟨S8448x11008, .bf16⟩
  | .hbm, ⟨3, _⟩ => ⟨S11008x4096, .f32⟩
  | .hbm, ⟨4, _⟩ => ⟨S11008x4096, .bf16⟩
  | .hbm, ⟨5, _⟩ => ⟨S8448x4096, .f32⟩
  | .local _ .vmem, ⟨0, _⟩ => ⟨S768x11008, .bf16⟩
  | .local _ .vmem, ⟨1, _⟩ => ⟨S768x11008, .bf16⟩
  | .local _ .vmem, ⟨2, _⟩ => ⟨S11008x256, .bf16⟩
  | .local _ .vmem, ⟨3, _⟩ => ⟨S11008x256, .bf16⟩
  | .local _ .vmem, ⟨4, _⟩ => ⟨S768x256, .f32⟩
  | .local _ .vmem, ⟨5, _⟩ => ⟨S768x256, .f32⟩
  | _, _ => ⟨S8448x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8448x11008 : Shape := ⟨2, ![8448, 11008]⟩
abbrev S1x11008x4096 : Shape := ⟨3, ![1, 11008, 4096]⟩
abbrev S11008x4096 : Shape := ⟨2, ![11008, 4096]⟩
abbrev S8448x4096 : Shape := ⟨2, ![8448, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8448x11008, .f32⟩
  | .hbm, ⟨1, _⟩ => ⟨S1x11008x4096, .f32⟩
  | .hbm, ⟨2, _⟩ => ⟨S11008x4096, .f32⟩
  | .hbm, ⟨3, _⟩ => ⟨S8448x4096, .f32⟩
  | _, _ => ⟨S8448x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8448x4096 : Shape := ⟨2, ![8448, 4096]⟩
abbrev S1x4096 : Shape := ⟨2, ![1, 4096]⟩
abbrev S4096 : Shape := ⟨1, ![4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S8192x4096, .f32⟩
  | .hbm, ⟨9, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v29 : BitVec 1 := Scalar.cmpi .sge arg0 c0_i32
  let c32_i32 : BitVec 32 := 32#32
  let v30 : BitVec 1 := Scalar.cmpi .slt arg0 c32_i32
  let v31 : BitVec 1 := Scalar.andi v29 v30
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c32_i32_13 : BitVec 32 := 32#32
  let v34 : BitVec 1 := Scalar.cmpi .sge arg0 c32_i32_13
  let c33_i32 : BitVec 32 := 33#32
  let v35 : BitVec 1 := Scalar.cmpi .slt arg0 c33_i32
  let v36 : BitVec 1 := Scalar.andi v34 v35
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c32_i32 : BitVec 32 := 32#32
  let v1 : BitVec 32 := Scalar.maxsi c0_i32_0 v0
  let v2 : BitVec 32 := Scalar.minsi c32_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c32_i32 : BitVec 32 := 32#32
  let v1 : BitVec 32 := Scalar.maxsi c0_i32_0 v0
  let v2 : BitVec 32 := Scalar.minsi c32_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8448x4096 : Shape := ⟨2, ![8448, 4096]⟩
abbrev S1x4096 : Shape := ⟨2, ![1, 4096]⟩
abbrev S_ : Shape := ⟨0, ![]⟩
abbrev S4096 : Shape := ⟨1, ![4096]⟩
abbrev S8448 : Shape := ⟨1, ![8448]⟩
abbrev S8448x1 : Shape := ⟨2, ![8448, 1]⟩
abbrev S8192x4096 : Shape := ⟨2, ![8192, 4096]⟩
abbrev S256x4096 : Shape := ⟨2, ![256, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S8448x4096, .f32⟩
  | .hbm, ⟨6, _⟩ => ⟨S8448x4096, .f32⟩
  | .hbm, ⟨7, _⟩ => ⟨S8448x4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x4096, .f32⟩
  | .hbm, ⟨17, _⟩ => ⟨S8448x4096, .f32⟩
  | .hbm, ⟨18, _⟩ => ⟨S8448x4096, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x4096, .f32⟩
  | .hbm, ⟨26, _⟩ => ⟨S8448x4096, .f32⟩
  | .hbm, ⟨27, _⟩ => ⟨S_, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S8448x4096, .f32⟩
  | .hbm, ⟨32, _⟩ => ⟨S8448x4096, .f32⟩
  | .hbm, ⟨33, _⟩ => ⟨S1x4096, .f32⟩
  | .hbm, ⟨34, _⟩ => ⟨S8448x4096, .f32⟩
  | .hbm, ⟨35, _⟩ => ⟨S8448x4096, .f32⟩
  | .hbm, ⟨36, _⟩ => ⟨S1x4096, .f32⟩
  | .hbm, ⟨37, _⟩ => ⟨S8448x4096, .f32⟩
  | .hbm, ⟨38, _⟩ => ⟨S8448x4096, .f32⟩
  | .hbm, ⟨39, _⟩ => ⟨S8192x4096, .f32⟩
  | .hbm, ⟨40, _⟩ => ⟨S256x4096, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Run10.lean ====
/- The run of both calls of the input projection, one after the other, between the host's operations: every array's
   contents at the end, for any arithmetic. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Run10

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The block of an operand of the first call at a grid point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At every point an operand's buffer holds its block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first call's weight window: no block the grid reaches is cut, so each is the whole buffer. The value under the block is read by nothing. -/
def under : (cfg0.win 1).block.Idx → Elt F (cfg0.win 1).elt := fun _ => Classical.choice inferInstance

def wblk (c : Dev nD) (t : Fin cfg0.N) : (cfg0.win 1).block.Idx → Elt F (cfg0.win 1).elt :=
  (cfg0.win 1).fill (cfg0.grid.coords t) under (iblk0 V c 1 t)

theorem wsize : ∀ t : Fin cfg0.N, ∀ a, (cfg0.win 1).xsize (cfg0.grid.coords t) a = (cfg0.win 1).size a := by decide +kernel

theorem wmoved (t : Fin cfg0.N) (j : (cfg0.win 1).block.Idx) : (cfg0.win 1).moved (cfg0.grid.coords t) j = true :=
  ((cfg0.win 1).moved_iff _ j).mpr fun a => by rw [wsize t a]; exact (j a).isLt

theorem wfill (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (wmoved t j), dif_pos (wmoved t j)]

theorem before0_1_of {c : Dev nD} (dat : Dat τ (Elt F) Unit ℕ (UR sig nD τ) ℕ cfg0 c) (hA : dat.A 1 = V c (Pipeline.arrRef spec0 1))
    (hafter : ∀ t, dat.after 1 t = wblk V c t) (t : Fin cfg0.N) (d) : dat.before 1 t d = wblk V c t :=
  (dat.before_in_eq_fetched 1 rfl (fun _ => rfl)
      (fun t t' h => funext fun a => congrArg (fun n => Pipeline.Clip.of n ((cfg0.win 1).size a) (S12736x4096.size a)) (congrFun h a))
      (fun t => by rw [hafter]; unfold wblk; rw [Pipeline.Window.cut_fill]; unfold Dat.blockOf iblk0; rw [hA]; try rfl) t d).trans
    (by unfold Dat.fetched wblk; rw [wfill t d under]; unfold Dat.blockOf iblk0; rw [hA]; try rfl)

abbrev r0_0 : Rect S1408x4096 := Rect.unit (s := S1408x4096) ![0, 0] S1408x4096.size inb_S1408x4096_S1408x4096_0_0
abbrev r0_1 : Rect S256x4096 := Rect.unit (s := S256x4096) ![0, 0] S256x4096.size inb_S256x4096_S256x4096_0_0
abbrev r0_2 : Rect S1408x256 := Rect.unit (s := S1408x256) ![0, 0] S1408x256.size inb_S1408x256_S1408x256_0_0

/-- What the first call leaves in its result buffer: the product of the two blocks. -/
def out0_2 (x0 : Vec F S1408x4096 .bf16) (x1 : Vec F S256x4096 .f32) : Vec F S1408x256 .f32 :=
  View.canon [⟨r0_2, k0_pay1 (View.ld x0 r0_0) (View.ld x1 r0_1)⟩]

theorem cover0_2 (p0 : Vec F S1408x256 .f32) (y : S1408x256.Idx) :
    ∃ pc ∈ ([⟨r0_2, p0⟩] : List (View.Piece (Elt F) S1408x256 .f32)), y ∈ pc.1.set :=
  View.cover_of_tiled [⟨r0_2, p0⟩] S1408x256.size (by rfl) y

set_option maxHeartbeats 1000000 in
/-- The first call's body, on whole buffers. -/
theorem sound_kernel0 (c : Dev nD) (E : Set ℕ) (i : grid0.Coords) (arg2 : Memref sig .tc .vmem S1408x4096 .bf16) (harg2 : arg2.IsWhole) (arg3 : Memref sig .tc .vmem S256x4096 .f32) (harg3 : arg3.IsWhole) (arg4 : Memref sig .tc .vmem S1408x256 .f32) (harg4 : arg4.IsWhole)
    (x0 : Vec F S1408x4096 .bf16) (x1 : Vec F S256x4096 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_in_proj_qkvr i arg2 harg2 arg3 harg3 arg4 harg4) K := by
  simp only [cc0_in_proj_qkvr_eq_skeleton]; unfold cc0_in_proj_qkvr_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call on a core, at any contents of the arrays: each operand's buffer keeps its block, the result's holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => wblk V c t
    | ⟨2, _⟩ => out0_2 (iblk0 V c 0 t) (wblk V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = wblk V c t := by dsimp only [dat0]
theorem after0_2 (c : Dev nD) (t : Fin cfg0.N) : (dat0 V c).after 2 t = out0_2 (iblk0 V c 0 t) (wblk V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = wblk V c t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (wblk V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of an operand of the second call at a grid point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every point an operand's buffer holds its block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S768x4096 := Rect.unit (s := S768x4096) ![0, 0] S768x4096.size inb_S768x4096_S768x4096_0_0
abbrev r1_1 : Rect S512x4096 := Rect.unit (s := S512x4096) ![0, 0] S512x4096.size inb_S512x4096_S512x4096_0_0
abbrev r1_2 : Rect S768x512 := Rect.unit (s := S768x512) ![0, 0] S768x512.size inb_S768x512_S768x512_0_0

/-- What the second call leaves in its result buffer: the product of the two blocks. -/
def out1_2 (x0 : Vec F S768x4096 .bf16) (x1 : Vec F S512x4096 .f32) : Vec F S768x512 .f32 :=
  View.canon [⟨r1_2, k1_pay1 (View.ld x0 r1_0) (View.ld x1 r1_1)⟩]

theorem cover1_2 (p0 : Vec F S768x512 .f32) (y : S768x512.Idx) :
    ∃ pc ∈ ([⟨r1_2, p0⟩] : List (View.Piece (Elt F) S768x512 .f32)), y ∈ pc.1.set :=
  View.cover_of_tiled [⟨r1_2, p0⟩] S768x512.size (by rfl) y

set_option maxHeartbeats 1000000 in
/-- The second call's body, on whole buffers. -/
theorem sound_kernel1 (c : Dev nD) (E : Set ℕ) (i : grid1.Coords) (arg2 : Memref sig .tc .vmem S768x4096 .bf16) (harg2 : arg2.IsWhole) (arg3 : Memref sig .tc .vmem S512x4096 .f32) (harg3 : arg3.IsWhole) (arg4 : Memref sig .tc .vmem S768x512 .f32) (harg4 : arg4.IsWhole)
    (x0 : Vec F S768x4096 .bf16) (x1 : Vec F S512x4096 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_in_proj_rest i arg2 harg2 arg3 harg3 arg4 harg4) K := by
  simp only [cc1_in_proj_rest_eq_skeleton]; unfold cc1_in_proj_rest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The second call, in the same way. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2]

/-- The operations before the calls allocate nothing and write none of the arguments. -/
theorem hostOps0_fresh : (hostOps0 : List (HloOp τ sig (Elt F))).Forall fun op => op.fresh = ∅ := by
  simp only [List.Forall]; repeat' constructor
abbrev hostOps0_W : List (Ref sig .tc) := [main_c, main_v0, main_v1, main_v2, main_v3, main_v4, main_v5, main_v6, main_cst, main_v7, main_v8, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- So do the operations after the calls. -/
theorem hostOps2_fresh : (hostOps2 : List (HloOp τ sig (Elt F))).Forall fun op => op.fresh = ∅ := by
  simp only [List.Forall]; repeat' constructor
abbrev hostOps2_W : List (Ref sig .tc) := [main_c_0, main_v15, main_v16, main_c_1, main_v17, main_v18, main_v19, main_v20, main_v21, main_c_2, main_v22, main_v23, main_c_3, main_v24, main_v25, main_v26, main_v27, main_v28, main_v29, main_v30, main_v31, main_v32, main_v33, main_v34, main_v35, main_c_4, main_v36, main_v37, main_c_5, main_v38, main_v39, main_c_6, main_v40, main_v41, main_c_7, main_v42, main_v43, main_v44, main_v45, main_v46, main_c_8, main_v47, main_v48, main_c_9, main_v49, main_v50, main_v51, main_v52, main_v53, main_v54, main_v55, main_v56, main_v57, main_v58, main_v59, main_v60, main_v61]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The arrays at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the operations before the calls. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After the first call: its result is written, everything else stays. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second call, in the same way. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last operations. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a step from one valuation of the arrays to the next. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as such a step. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program: operations, two calls, operations. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, and every array then holds what the four steps leave. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end as they were and every counter is zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run m ρ)

end Cert.Proof.Run10

end
-- ==== Proof.Rows.lean ====
/- The layer's rows: the prompt's 8192 rows, then the 32 samples' 8 rows each. The calls and their references build them by
   the same concatenation, which is read here once, at an index. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic

namespace Cert.Proof

/-- All rows: the prompt's 8192, then the samples' 32 times 8. -/
def rows (xp : FVec Ideal ⟨3, ![1, 8192, 4096]⟩ .f32) (xs : FVec Ideal ⟨3, ![32, 8, 4096]⟩ .f32) : FVec Ideal ⟨2, ![8448, 4096]⟩ .f32 :=
  fun i => if h : (i 0).val < 8192 then xp (ix3 0 ⟨(i 0).val, h⟩ (i 1))
    else xs (ix3 ⟨((i 0).val - 8192) / 8, by have : (i 0).val < 8448 := (i 0).isLt; omega⟩ ⟨((i 0).val - 8192) % 8, by omega⟩ (i 1))

/-- The reshaped inputs, one after the other, are the rows. -/
theorem rows_eq (xp : FVec Ideal ⟨3, ![1, 8192, 4096]⟩ .f32) (xs : FVec Ideal ⟨3, ![32, 8, 4096]⟩ .f32)
    (hp : Shape.ShapeCasts ⟨3, ![1, 8192, 4096]⟩ ⟨2, ![8192, 4096]⟩) (hs : Shape.ShapeCasts ⟨3, ![32, 8, 4096]⟩ ⟨2, ![256, 4096]⟩) hc :
    concatenate ⟨2, ![8448, 4096]⟩ 0 [⟨⟨2, ![8192, 4096]⟩, shapeCast ⟨2, ![8192, 4096]⟩ xp hp⟩, ⟨⟨2, ![256, 4096]⟩, shapeCast ⟨2, ![256, 4096]⟩ xs hs⟩] hc = rows xp xs := by
  set_option maxRecDepth 200000 in
  funext i
  pointwise
  rfl

/-- The same after the cast, which keeps every value. -/
theorem rows_cast_eq (xp : FVec Ideal ⟨3, ![1, 8192, 4096]⟩ .f32) (xs : FVec Ideal ⟨3, ![32, 8, 4096]⟩ .f32)
    (hp : Shape.ShapeCasts ⟨3, ![1, 8192, 4096]⟩ ⟨2, ![8192, 4096]⟩) (hs : Shape.ShapeCasts ⟨3, ![32, 8, 4096]⟩ ⟨2, ![256, 4096]⟩) hb hb' hc :
    concatenate ⟨2, ![8448, 4096]⟩ 0 [⟨⟨2, ![8192, 4096]⟩, truncf (F := Ideal) .bf16 (fun i => shapeCast ⟨2, ![8192, 4096]⟩ xp hp i) hb⟩,
      ⟨⟨2, ![256, 4096]⟩, truncf (F := Ideal) .bf16 (fun i => shapeCast ⟨2, ![256, 4096]⟩ xs hs i) hb'⟩] hc = rows xp xs := by
  set_option maxRecDepth 200000 in
  funext i
  pointwise
  rfl

end Cert.Proof

end
-- ==== Proof.Call2.lean ====
/- The input projection's first call: queries, keys, values and receptances are the rows' products with their columns; the layer's new keys and values are groups of these. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.Run
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call2

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2.2.2.2,
      sem_eq_zero_of_no_sems (by decide) r.2⟩)
    (Cert.Reference2Ideal.Value.run (F := Ideal) m ρ)
theorem preserves : Cert.preserves_Kernel2_Kernel2Ideal := trivial

open Cert.Kernel2Ideal Cert.Kernel2Ideal.Gen

variable (m : (ℓ : Loc nD τ sig) → Buf (Elt Ideal) ℓ) (ρ : Dev nD → PrngReg)

/-- The rows' products with the first 8192 columns of the weight. -/
def G (xp : FVec Ideal S1x8192x4096 .f32) (xs : FVec Ideal S32x8x4096 .f32) (w : FVec Ideal S1x4096x12736 .f32) : FVec Ideal S8448x8192 .f32 :=
  fun i => ∑ k : Fin 4096, rows xp xs (ix2 (i 0) k) * w (ix3 0 k ⟨(i 1).val, by have : (i 1).val < 8192 := (i 1).isLt; omega⟩)

/-- The reference's columns are `G`. -/
theorem ref_eq (xp : FVec Ideal S1x8192x4096 .f32) (xs : FVec Ideal S32x8x4096 .f32) (w : FVec Ideal S1x4096x12736 .f32) :
    extractStridedSlice Cert.Reference2Ideal.S8448x8192 ![0, 0] (Host.dotGeneral (F := Ideal) (φ₁ := .f32) (φ₂ := .f32) Cert.Reference2Ideal.dot_S8448x4096_S4096x12736_S8448x12736_1_0_0_1_n_n none (concatenate Cert.Reference2Ideal.S8448x4096 0 [⟨Cert.Reference2Ideal.S8192x4096, (shapeCast _ xp Cert.Reference2Ideal.Facts₀.shapeCasts_S1x8192x4096_S8192x4096)⟩, ⟨Cert.Reference2Ideal.S256x4096, (shapeCast _ xs Cert.Reference2Ideal.Facts₀.shapeCasts_S32x8x4096_S256x4096)⟩] Cert.Reference2Ideal.Facts₀.concatenates_S8192x4096_S256x4096_S8448x4096_d0) (shapeCast _ w Cert.Reference2Ideal.Facts₀.shapeCasts_S1x4096x12736_S4096x12736)) Cert.Reference2Ideal.Facts₀.slices_S8448x12736_S8448x8192_0_0
      = G xp xs w := by
  funext i
  unfold G
  rw [rows_eq]
  pointwise

/-- The row operand of the call holds the rows. -/
theorem entry_x (c : Dev nD) : V m c main_v4 = rows (m ((c : Thread nD τ).loc main_arg0)) (m ((c : Thread nD τ).loc main_arg1)) := by
  show StableHlo.after hostOps0 (fun b => m (c, b)) (Proc.devRef .tc main_v4) = _
  after_results
  exact rows_cast_eq _ _ _ _ _ _ _

theorem read_x (c : Dev nD) (t : Fin cfg0.N) : iblk m c 0 t = fun j =>
    rows (m ((c : Thread nD τ).loc main_arg0)) (m ((c : Thread nD τ).loc main_arg1)) (((cfg0.win 0).blk t).view.emb j) :=
  funext fun _ => congrFun (entry_x m c) _

/-- The weight operand is the weight transposed. -/
theorem entry_w (c : Dev nD) : V m c main_v6 = fun j => m ((c : Thread nD τ).loc main_arg2) (ix3 0 (j 1) (j 0)) := by
  show StableHlo.after hostOps0 (fun b => m (c, b)) (Proc.devRef .tc main_v6) = _
  after_results
  funext j
  pointwise

/-- The blocks each grid point reads and writes. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The weight's block at a point, whole at every point. -/
theorem read_w (c : Dev nD) (t : Fin cfg0.N) : X0_1 m c t = fun j : S256x4096.Idx =>
    m ((c : Thread nD τ).loc main_arg2) (ix3 0 (j 1) ⟨(grid0.coords t 1).val * 256 + (j 0).val, by
      have h : (grid0.coords t 1).val < 32 := (grid0.coords t 1).isLt
      have h' : (j 0).val < 256 := (j 0).isLt
      omega⟩) := by
  obtain ⟨-, e1, -⟩ := idx t
  funext j
  unfold X0_1 Pipeline.Window.fill
  rw [dif_pos (moved0_1 t j)]
  refine (congrFun (entry_w m c) _).trans ?_
  blk_ext [e1]

/-- The result array after the run. -/
theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  obtain ⟨e0, e1, e2⟩ := idx t
  blk_simp
  rw [after0_2]
  unfold outsAt0
  frame_out
  rw [read_x, read_w]
  unfold k0_pay1 G
  generalize rows (m ((c : Thread nD τ).loc main_arg0)) (m ((c : Thread nD τ).loc main_arg1)) = X
  pointwise
  blk_point [iblk, V, e0, e1, e2]

/-- The prompt's keys or values: a group of 2048 columns from `o`, the prompt's rows, by head. -/
def promptCols (o : Nat) (h : S8448x8192.Slices ![0, o] S8448x2048) (A : FVec Ideal S8448x8192 .f32) : FVec Ideal S1x1x8192x16x128 .f32 :=
  broadcastInDim S1x1x8192x16x128 ![1, 2, 3, 4] bcast_S1x8192x16x128_S1x1x8192x16x128_1_2_3_4
    (shapeCast S1x8192x16x128 (extractStridedSlice S8192x2048 ![0, 0] (extractStridedSlice S8448x2048 ![0, o] A h)
      slices_S8448x2048_S8192x2048_0_0) shapeCasts_S8192x2048_S1x8192x16x128)

/-- The sample's keys or values, of the rows after the prompt's. -/
def sampleCols (o : Nat) (h : S8448x8192.Slices ![8192, o] S256x2048) (A : FVec Ideal S8448x8192 .f32) : FVec Ideal S1x32x8x16x128 .f32 :=
  broadcastInDim S1x32x8x16x128 ![1, 2, 3, 4] bcast_S32x8x16x128_S1x32x8x16x128_1_2_3_4
    (shapeCast S32x8x16x128 (extractStridedSlice S256x2048 ![8192, o] A h) shapeCasts_S256x2048_S32x8x16x128)

/-- Taking the columns first and then the sample's rows is one slice. -/
theorem slice_slice_k (A : FVec Ideal S8448x8192 .f32) :
    extractStridedSlice Cert.Reference2Ideal.S256x2048 ![8192, 0] (extractStridedSlice Cert.Reference2Ideal.S8448x2048 ![0, 2048] A Cert.Reference2Ideal.Facts₀.slices_S8448x8192_S8448x2048_0_2048) Cert.Reference2Ideal.Facts₀.slices_S8448x2048_S256x2048_8192_0
      = extractStridedSlice S256x2048 ![8192, 2048] A slices_S8448x8192_S256x2048_8192_2048 := by
  funext i
  pointwise

theorem slice_slice_v (A : FVec Ideal S8448x8192 .f32) :
    extractStridedSlice Cert.Reference2Ideal.S256x2048 ![8192, 0] (extractStridedSlice Cert.Reference2Ideal.S8448x2048 ![0, 4096] A Cert.Reference2Ideal.Facts₀.slices_S8448x8192_S8448x2048_0_4096) Cert.Reference2Ideal.Facts₀.slices_S8448x2048_S256x2048_8192_0
      = extractStridedSlice S256x2048 ![8192, 4096] A slices_S8448x8192_S256x2048_8192_4096 := by
  funext i
  pointwise

/-! What the operations after the call leave in each result, of the call's own. -/

theorem line_v16 (W : Valuation τ sig (Elt Ideal)) :
    StableHlo.after hostOps1 W (Proc.devRef .tc main_v16) = promptCols 2048 slices_S8448x8192_S8448x2048_0_2048 (W (Proc.devRef .tc main_v7)) := by
  after_results <;> rfl

theorem line_v19 (W : Valuation τ sig (Elt Ideal)) :
    StableHlo.after hostOps1 W (Proc.devRef .tc main_v19) = promptCols 4096 slices_S8448x8192_S8448x2048_0_4096 (W (Proc.devRef .tc main_v7)) := by
  after_results <;> rfl

theorem line_v20 (W : Valuation τ sig (Elt Ideal)) :
    StableHlo.after hostOps1 W (Proc.devRef .tc main_v20) = sampleCols 2048 slices_S8448x8192_S256x2048_8192_2048 (W (Proc.devRef .tc main_v7)) := by
  after_results <;> rfl

theorem line_v21 (W : Valuation τ sig (Elt Ideal)) :
    StableHlo.after hostOps1 W (Proc.devRef .tc main_v21) = sampleCols 4096 slices_S8448x8192_S256x2048_8192_4096 (W (Proc.devRef .tc main_v7)) := by
  after_results <;> rfl

/-- The call's result as the operations after it find it. -/
theorem found (c : Dev nD) : Pipeline.withArrays cfg0.spec c (V0 m c) (fun w => (dats m 0 c).arrAt w cfg0.N) (Proc.devRef .tc main_v7)
    = G (m ((c : Thread nD τ).loc main_arg0)) (m ((c : Thread nD τ).loc main_arg1)) (m ((c : Thread nD τ).loc main_arg2)) :=
  (Pipeline.withArrays_arr cfg0.spec (by decide) c (V0 m c) (fun w => (dats m 0 c).arrAt w cfg0.N) 2).trans (final m c)

theorem tail_v16 (c : Dev nD) : Pipeline.afterTail₀ cfgs (dats m) 0 (V0 m) [hostOps1] c main_v16
    = promptCols 2048 slices_S8448x8192_S8448x2048_0_2048 (G (m ((c : Thread nD τ).loc main_arg0)) (m ((c : Thread nD τ).loc main_arg1)) (m ((c : Thread nD τ).loc main_arg2))) :=
  (line_v16 _).trans (congrArg (promptCols 2048 slices_S8448x8192_S8448x2048_0_2048) (found m c))

theorem tail_v19 (c : Dev nD) : Pipeline.afterTail₀ cfgs (dats m) 0 (V0 m) [hostOps1] c main_v19
    = promptCols 4096 slices_S8448x8192_S8448x2048_0_4096 (G (m ((c : Thread nD τ).loc main_arg0)) (m ((c : Thread nD τ).loc main_arg1)) (m ((c : Thread nD τ).loc main_arg2))) :=
  (line_v19 _).trans (congrArg (promptCols 4096 slices_S8448x8192_S8448x2048_0_4096) (found m c))

theorem tail_v20 (c : Dev nD) : Pipeline.afterTail₀ cfgs (dats m) 0 (V0 m) [hostOps1] c main_v20
    = sampleCols 2048 slices_S8448x8192_S256x2048_8192_2048 (G (m ((c : Thread nD τ).loc main_arg0)) (m ((c : Thread nD τ).loc main_arg1)) (m ((c : Thread nD τ).loc main_arg2))) :=
  (line_v20 _).trans (congrArg (sampleCols 2048 slices_S8448x8192_S256x2048_8192_2048) (found m c))

theorem tail_v21 (c : Dev nD) : Pipeline.afterTail₀ cfgs (dats m) 0 (V0 m) [hostOps1] c main_v21
    = sampleCols 4096 slices_S8448x8192_S256x2048_8192_4096 (G (m ((c : Thread nD τ).loc main_arg0)) (m ((c : Thread nD τ).loc main_arg1)) (m ((c : Thread nD τ).loc main_arg2))) :=
  (line_v21 _).trans (congrArg (sampleCols 4096 slices_S8448x8192_S256x2048_8192_4096) (found m c))

theorem run_kernel : θ_run defs (onTc (τ := τ) (main (F := Ideal))) ⟨m, fun _ => 0, ρ⟩ fun r => ∀ c : Dev nD,
    r.2.mem ((c : Thread nD τ).loc main_v7) = G (m ((c : Thread nD τ).loc main_arg0)) (m ((c : Thread nD τ).loc main_arg1)) (m ((c : Thread nD τ).loc main_arg2))
    ∧ r.2.mem ((c : Thread nD τ).loc main_v16) = promptCols 2048 slices_S8448x8192_S8448x2048_0_2048 (G (m ((c : Thread nD τ).loc main_arg0)) (m ((c : Thread nD τ).loc main_arg1)) (m ((c : Thread nD τ).loc main_arg2)))
    ∧ r.2.mem ((c : Thread nD τ).loc main_v19) = promptCols 4096 slices_S8448x8192_S8448x2048_0_4096 (G (m ((c : Thread nD τ).loc main_arg0)) (m ((c : Thread nD τ).loc main_arg1)) (m ((c : Thread nD τ).loc main_arg2)))
    ∧ r.2.mem ((c : Thread nD τ).loc main_v20) = sampleCols 2048 slices_S8448x8192_S256x2048_8192_2048 (G (m ((c : Thread nD τ).loc main_arg0)) (m ((c : Thread nD τ).loc main_arg1)) (m ((c : Thread nD τ).loc main_arg2)))
    ∧ r.2.mem ((c : Thread nD τ).loc main_v21) = sampleCols 4096 slices_S8448x8192_S256x2048_8192_4096 (G (m ((c : Thread nD τ).loc main_arg0)) (m ((c : Thread nD τ).loc main_arg1)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    :=
  (θ_run defs _ _).mono (fun _ h c => ⟨((h.1 c).1 2).trans (final m c),
      ((h.1 c).2 main_v16 (Pipeline.mem_restRefs_of main_v16 (by decide) (by decide))).trans (tail_v16 m c),
      ((h.1 c).2 main_v19 (Pipeline.mem_restRefs_of main_v19 (by decide) (by decide))).trans (tail_v19 m c),
      ((h.1 c).2 main_v20 (Pipeline.mem_restRefs_of main_v20 (by decide) (by decide))).trans (tail_v20 m c),
      ((h.1 c).2 main_v21 (Pipeline.mem_restRefs_of main_v21 (by decide) (by decide))).trans (tail_v21 m c),
      h.2 c⟩)
    (θ_run_and (run_main m ρ) (unchanged m ρ))

theorem algebraic : Cert.algebraic_Kernel2Ideal_Reference2Ideal := by
  intro m ρ m' ρ' _ hagree
  refine ⟨fun c => G (m ((c : Thread nD τ).loc main_arg0)) (m ((c : Thread nD τ).loc main_arg1)) (m ((c : Thread nD τ).loc main_arg2)),
    fun c => promptCols 2048 slices_S8448x8192_S8448x2048_0_2048 (G (m ((c : Thread nD τ).loc main_arg0)) (m ((c : Thread nD τ).loc main_arg1)) (m ((c : Thread nD τ).loc main_arg2))),
    fun c => promptCols 4096 slices_S8448x8192_S8448x2048_0_4096 (G (m ((c : Thread nD τ).loc main_arg0)) (m ((c : Thread nD τ).loc main_arg1)) (m ((c : Thread nD τ).loc main_arg2))),
    fun c => sampleCols 2048 slices_S8448x8192_S256x2048_8192_2048 (G (m ((c : Thread nD τ).loc main_arg0)) (m ((c : Thread nD τ).loc main_arg1)) (m ((c : Thread nD τ).loc main_arg2))),
    fun c => sampleCols 4096 slices_S8448x8192_S256x2048_8192_4096 (G (m ((c : Thread nD τ).loc main_arg0)) (m ((c : Thread nD τ).loc main_arg1)) (m ((c : Thread nD τ).loc main_arg2))),
    run_kernel m ρ, ?_⟩
  refine (θ_run Cert.Reference2Ideal.defs _ _).mono (fun _ h c => ?_) (Cert.Reference2Ideal.Value.run (F := Ideal) m' ρ')
  obtain ⟨ha, hb, hc⟩ := hagree c
  obtain ⟨h0, h1, h2, h3, h4, hk⟩ := h c
  rw [ha, hb, hc] at h0 h1 h2 h3 h4
  have e := ref_eq (m ((c : Thread nD τ).loc main_arg0)) (m ((c : Thread nD τ).loc main_arg1)) (m ((c : Thread nD τ).loc main_arg2))
  refine ⟨h0.trans e, ?_, ?_, ?_, ?_, hk⟩
  · rw [h1, e]; rfl
  · rw [h2, e]; rfl
  · rw [h3, e, slice_slice_k]; rfl
  · rw [h4, e, slice_slice_v]; rfl

end Cert.Proof.Call2

end
-- ==== Proof.Call3.lean ====
/- The input projection's second call: the recurrence's keys, values and low-rank columns. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.Run
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call3

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      sem_eq_zero_of_no_sems (by decide) r.2⟩)
    (Cert.Reference3Ideal.Value.run (F := Ideal) m ρ)
theorem preserves : Cert.preserves_Kernel3_Kernel3Ideal := trivial

open Cert.Kernel3Ideal Cert.Kernel3Ideal.Gen Cert.Kernel3Ideal.Value

variable (m : (ℓ : Loc nD τ sig) → Buf (Elt Ideal) ℓ) (ρ : Dev nD → PrngReg)

/-- The weight's columns in the call's order: keys, values, and the three low-rank groups, two of them filled up with zeros. -/
def cols (w : FVec Ideal S1x4096x12736 .f32) : FVec Ideal S4608x4096 .f32 := fun j =>
  if h0 : (j 0).val < 4096 then w (ix3 0 (j 1) ⟨(j 0).val + 8288, by omega⟩)
  else if h1 : (j 0).val < 4192 then w (ix3 0 (j 1) ⟨(j 0).val + 4096, by omega⟩)
  else if h2 : (j 0).val < 4224 then 0
  else if h3 : (j 0).val < 4320 then w (ix3 0 (j 1) ⟨(j 0).val + 8160, by omega⟩)
  else if h4 : (j 0).val < 4352 then 0
  else w (ix3 0 (j 1) ⟨(j 0).val + 8128, by have h : (j 0).val < 4608 := (j 0).isLt; omega⟩)

theorem cols_keys {w : FVec Ideal S1x4096x12736 .f32} {k : Fin 4096} {j : Fin 4608} (q : Fin 12736) (h : j.val < 4096)
    (hq : q.val = j.val + 8288) : cols w (ix2 j k) = w (ix3 0 k q) := by
  have e : (⟨j.val + 8288, by omega⟩ : Fin 12736) = q := Fin.ext hq.symm
  rw [← e]
  exact dif_pos h

theorem cols_low0 {w : FVec Ideal S1x4096x12736 .f32} {k : Fin 4096} {j : Fin 4608} (q : Fin 12736) (h : ¬j.val < 4096) (h' : j.val < 4192)
    (hq : q.val = j.val + 4096) : cols w (ix2 j k) = w (ix3 0 k q) := by
  have e : (⟨j.val + 4096, by omega⟩ : Fin 12736) = q := Fin.ext hq.symm
  rw [← e]
  exact (dif_neg h).trans (dif_pos h')

theorem cols_zero0 {w : FVec Ideal S1x4096x12736 .f32} {k : Fin 4096} {j : Fin 4608} (h : ¬j.val < 4192) (h' : j.val < 4224) :
    cols w (ix2 j k) = 0 :=
  (dif_neg (show ¬j.val < 4096 by omega)).trans ((dif_neg h).trans (dif_pos h'))

theorem cols_low1 {w : FVec Ideal S1x4096x12736 .f32} {k : Fin 4096} {j : Fin 4608} (q : Fin 12736) (h : ¬j.val < 4224) (h' : j.val < 4320)
    (hq : q.val = j.val + 8160) : cols w (ix2 j k) = w (ix3 0 k q) := by
  have e : (⟨j.val + 8160, by omega⟩ : Fin 12736) = q := Fin.ext hq.symm
  rw [← e]
  exact (dif_neg (show ¬j.val < 4096 by omega)).trans ((dif_neg (show ¬j.val < 4192 by omega)).trans ((dif_neg h).trans (dif_pos h')))

theorem cols_zero1 {w : FVec Ideal S1x4096x12736 .f32} {k : Fin 4096} {j : Fin 4608} (h : ¬j.val < 4320) (h' : j.val < 4352) :
    cols w (ix2 j k) = 0 :=
  (dif_neg (show ¬j.val < 4096 by omega)).trans ((dif_neg (show ¬j.val < 4192 by omega)).trans
    ((dif_neg (show ¬j.val < 4224 by omega)).trans ((dif_neg h).trans (dif_pos h'))))

theorem cols_low2 {w : FVec Ideal S1x4096x12736 .f32} {k : Fin 4096} {j : Fin 4608} (q : Fin 12736) (h : ¬j.val < 4352)
    (hq : q.val = j.val + 8128) : cols w (ix2 j k) = w (ix3 0 k q) := by
  have e : (⟨j.val + 8128, by omega⟩ : Fin 12736) = q := Fin.ext hq.symm
  rw [← e]
  exact (dif_neg (show ¬j.val < 4096 by omega)).trans ((dif_neg (show ¬j.val < 4192 by omega)).trans
    ((dif_neg (show ¬j.val < 4224 by omega)).trans ((dif_neg (show ¬j.val < 4320 by omega)).trans (dif_neg h))))

/-- The rows' products with these columns. -/
def G (xp : FVec Ideal S1x8192x4096 .f32) (xs : FVec Ideal S32x8x4096 .f32) (w : FVec Ideal S1x4096x12736 .f32) : FVec Ideal S8448x4608 .f32 :=
  fun i => ∑ k : Fin 4096, rows xp xs (ix2 (i 0) k) * cols w (ix2 (i 1) k)

/-- The reference's columns are `G`. -/
theorem ref_eq (xp : FVec Ideal S1x8192x4096 .f32) (xs : FVec Ideal S32x8x4096 .f32) (w : FVec Ideal S1x4096x12736 .f32) :
    (concatenate Cert.Reference3Ideal.S8448x4608 1 [⟨Cert.Reference3Ideal.S8448x2048, ((extractStridedSlice Cert.Reference3Ideal.S8448x2048 ![0, 2144] (extractStridedSlice Cert.Reference3Ideal.S8448x6592 ![0, 6144] (Host.dotGeneral (F := Ideal) (φ₁ := .f32) (φ₂ := .f32) Cert.Reference3Ideal.dot_S8448x4096_S4096x12736_S8448x12736_1_0_0_1_n_n none (concatenate Cert.Reference3Ideal.S8448x4096 0 [⟨Cert.Reference3Ideal.S8192x4096, (shapeCast _ xp Cert.Reference3Ideal.Facts₀.shapeCasts_S1x8192x4096_S8192x4096)⟩, ⟨Cert.Reference3Ideal.S256x4096, (shapeCast _ xs Cert.Reference3Ideal.Facts₀.shapeCasts_S32x8x4096_S256x4096)⟩] Cert.Reference3Ideal.Facts₀.concatenates_S8192x4096_S256x4096_S8448x4096_d0) (shapeCast _ w Cert.Reference3Ideal.Facts₀.shapeCasts_S1x4096x12736_S4096x12736)) Cert.Reference3Ideal.Facts₀.slices_S8448x12736_S8448x6592_0_6144) Cert.Reference3Ideal.Facts₀.slices_S8448x6592_S8448x2048_0_2144) : FVec Ideal Cert.Reference3Ideal.S8448x2048 .f32)⟩, ⟨Cert.Reference3Ideal.S8448x2048, ((extractStridedSlice Cert.Reference3Ideal.S8448x2048 ![0, 4192] (extractStridedSlice Cert.Reference3Ideal.S8448x6592 ![0, 6144] (Host.dotGeneral (F := Ideal) (φ₁ := .f32) (φ₂ := .f32) Cert.Reference3Ideal.dot_S8448x4096_S4096x12736_S8448x12736_1_0_0_1_n_n none (concatenate Cert.Reference3Ideal.S8448x4096 0 [⟨Cert.Reference3Ideal.S8192x4096, (shapeCast _ xp Cert.Reference3Ideal.Facts₀.shapeCasts_S1x8192x4096_S8192x4096)⟩, ⟨Cert.Reference3Ideal.S256x4096, (shapeCast _ xs Cert.Reference3Ideal.Facts₀.shapeCasts_S32x8x4096_S256x4096)⟩] Cert.Reference3Ideal.Facts₀.concatenates_S8192x4096_S256x4096_S8448x4096_d0) (shapeCast _ w Cert.Reference3Ideal.Facts₀.shapeCasts_S1x4096x12736_S4096x12736)) Cert.Reference3Ideal.Facts₀.slices_S8448x12736_S8448x6592_0_6144) Cert.Reference3Ideal.Facts₀.slices_S8448x6592_S8448x2048_0_4192) : FVec Ideal Cert.Reference3Ideal.S8448x2048 .f32)⟩, ⟨Cert.Reference3Ideal.S8448x96, ((extractStridedSlice Cert.Reference3Ideal.S8448x96 ![0, 2048] (extractStridedSlice Cert.Reference3Ideal.S8448x6592 ![0, 6144] (Host.dotGeneral (F := Ideal) (φ₁ := .f32) (φ₂ := .f32) Cert.Reference3Ideal.dot_S8448x4096_S4096x12736_S8448x12736_1_0_0_1_n_n none (concatenate Cert.Reference3Ideal.S8448x4096 0 [⟨Cert.Reference3Ideal.S8192x4096, (shapeCast _ xp Cert.Reference3Ideal.Facts₀.shapeCasts_S1x8192x4096_S8192x4096)⟩, ⟨Cert.Reference3Ideal.S256x4096, (shapeCast _ xs Cert.Reference3Ideal.Facts₀.shapeCasts_S32x8x4096_S256x4096)⟩] Cert.Reference3Ideal.Facts₀.concatenates_S8192x4096_S256x4096_S8448x4096_d0) (shapeCast _ w Cert.Reference3Ideal.Facts₀.shapeCasts_S1x4096x12736_S4096x12736)) Cert.Reference3Ideal.Facts₀.slices_S8448x12736_S8448x6592_0_6144) Cert.Reference3Ideal.Facts₀.slices_S8448x6592_S8448x96_0_2048) : FVec Ideal Cert.Reference3Ideal.S8448x96 .f32)⟩, ⟨Cert.Reference3Ideal.S8448x32, ((broadcastInDim Cert.Reference3Ideal.S8448x32 ![] Cert.Reference3Ideal.Facts₀.bcast_S_S8448x32 (constant Cert.Reference3Ideal.S_ .f32 0x00000000#32)) : FVec Ideal Cert.Reference3Ideal.S8448x32 .f32)⟩, ⟨Cert.Reference3Ideal.S8448x96, ((extractStridedSlice Cert.Reference3Ideal.S8448x96 ![0, 6240] (extractStridedSlice Cert.Reference3Ideal.S8448x6592 ![0, 6144] (Host.dotGeneral (F := Ideal) (φ₁ := .f32) (φ₂ := .f32) Cert.Reference3Ideal.dot_S8448x4096_S4096x12736_S8448x12736_1_0_0_1_n_n none (concatenate Cert.Reference3Ideal.S8448x4096 0 [⟨Cert.Reference3Ideal.S8192x4096, (shapeCast _ xp Cert.Reference3Ideal.Facts₀.shapeCasts_S1x8192x4096_S8192x4096)⟩, ⟨Cert.Reference3Ideal.S256x4096, (shapeCast _ xs Cert.Reference3Ideal.Facts₀.shapeCasts_S32x8x4096_S256x4096)⟩] Cert.Reference3Ideal.Facts₀.concatenates_S8192x4096_S256x4096_S8448x4096_d0) (shapeCast _ w Cert.Reference3Ideal.Facts₀.shapeCasts_S1x4096x12736_S4096x12736)) Cert.Reference3Ideal.Facts₀.slices_S8448x12736_S8448x6592_0_6144) Cert.Reference3Ideal.Facts₀.slices_S8448x6592_S8448x96_0_6240) : FVec Ideal Cert.Reference3Ideal.S8448x96 .f32)⟩, ⟨Cert.Reference3Ideal.S8448x32, ((broadcastInDim Cert.Reference3Ideal.S8448x32 ![] Cert.Reference3Ideal.Facts₀.bcast_S_S8448x32 (constant Cert.Reference3Ideal.S_ .f32 0x00000000#32)) : FVec Ideal Cert.Reference3Ideal.S8448x32 .f32)⟩, ⟨Cert.Reference3Ideal.S8448x256, ((extractStridedSlice Cert.Reference3Ideal.S8448x256 ![0, 6336] (extractStridedSlice Cert.Reference3Ideal.S8448x6592 ![0, 6144] (Host.dotGeneral (F := Ideal) (φ₁ := .f32) (φ₂ := .f32) Cert.Reference3Ideal.dot_S8448x4096_S4096x12736_S8448x12736_1_0_0_1_n_n none (concatenate Cert.Reference3Ideal.S8448x4096 0 [⟨Cert.Reference3Ideal.S8192x4096, (shapeCast _ xp Cert.Reference3Ideal.Facts₀.shapeCasts_S1x8192x4096_S8192x4096)⟩, ⟨Cert.Reference3Ideal.S256x4096, (shapeCast _ xs Cert.Reference3Ideal.Facts₀.shapeCasts_S32x8x4096_S256x4096)⟩] Cert.Reference3Ideal.Facts₀.concatenates_S8192x4096_S256x4096_S8448x4096_d0) (shapeCast _ w Cert.Reference3Ideal.Facts₀.shapeCasts_S1x4096x12736_S4096x12736)) Cert.Reference3Ideal.Facts₀.slices_S8448x12736_S8448x6592_0_6144) Cert.Reference3Ideal.Facts₀.slices_S8448x6592_S8448x256_0_6336) : FVec Ideal Cert.Reference3Ideal.S8448x256 .f32)⟩] Cert.Reference3Ideal.Facts₀.concatenates_S8448x2048_S8448x2048_S8448x96_S8448x32_S8448x96_S8448x32_S8448x256_S8448x4608_d1 : FVec Ideal Cert.Reference3Ideal.S8448x4608 .f32)
      = G xp xs w := by
  funext i
  unfold G
  rw [rows_eq]
  have hi : (i 1).val < 4608 := (i 1).isLt
  pointwise
  by_cases a0 : (i 1).val < 2048
  · rw [dif_pos a0]
    exact Finset.sum_congr rfl fun k _ => congrArg _ (cols_keys _ (by omega) (by show 6144 + (2144 + (i 1).val) = (i 1).val + 8288; omega)).symm
  rw [dif_neg a0]
  by_cases a1 : (i 1).val - 2048 < 2048
  · rw [dif_pos a1]
    exact Finset.sum_congr rfl fun k _ => congrArg _ (cols_keys _ (by omega) (by show 6144 + (4192 + ((i 1).val - 2048)) = (i 1).val + 8288; omega)).symm
  rw [dif_neg a1]
  by_cases a2 : (i 1).val - 2048 - 2048 < 96
  · rw [dif_pos a2]
    exact Finset.sum_congr rfl fun k _ => congrArg _ (cols_low0 _ (by omega) (by omega) (by show 6144 + (2048 + ((i 1).val - 2048 - 2048)) = (i 1).val + 4096; omega)).symm
  rw [dif_neg a2]
  by_cases a3 : (i 1).val - 2048 - 2048 - 96 < 32
  · rw [dif_pos a3]
    exact (Finset.sum_eq_zero fun k _ => (congrArg (rows xp xs (ix2 (i 0) k) * ·) (cols_zero0 (by omega) (by omega))).trans (mul_zero _)).symm
  rw [dif_neg a3]
  by_cases a4 : (i 1).val - 2048 - 2048 - 96 - 32 < 96
  · rw [dif_pos a4]
    exact Finset.sum_congr rfl fun k _ => congrArg _ (cols_low1 _ (by omega) (by omega) (by show 6144 + (6240 + ((i 1).val - 2048 - 2048 - 96 - 32)) = (i 1).val + 8160; omega)).symm
  rw [dif_neg a4]
  by_cases a5 : (i 1).val - 2048 - 2048 - 96 - 32 - 96 < 32
  · rw [dif_pos a5]
    exact (Finset.sum_eq_zero fun k _ => (congrArg (rows xp xs (ix2 (i 0) k) * ·) (cols_zero1 (by omega) (by omega))).trans (mul_zero _)).symm
  rw [dif_neg a5]
  exact Finset.sum_congr rfl fun k _ => congrArg _ (cols_low2 _ (by omega) (by show 6144 + (6336 + ((i 1).val - 2048 - 2048 - 96 - 32 - 96 - 32)) = (i 1).val + 8128; omega)).symm

/-- The row operand of the call holds the rows. -/
theorem entry_x (c : Dev nD) : V m c main_v4 = rows (m ((c : Thread nD τ).loc main_arg0)) (m ((c : Thread nD τ).loc main_arg1)) := by
  entry_read
  exact rows_cast_eq _ _ _ _ _ _ _

theorem read_x (c : Dev nD) (t : Fin cfg0.N) : iblk m c 0 t = fun j =>
    rows (m ((c : Thread nD τ).loc main_arg0)) (m ((c : Thread nD τ).loc main_arg1)) (((cfg0.win 0).blk t).view.emb j) :=
  funext fun _ => congrFun (entry_x m c) _

/-- The weight operand as the operations before the call make it. -/
def host (w : FVec Ideal S1x4096x12736 .f32) : FVec Ideal S4608x4096 .f32 :=
  (concatenate S4608x4096 0 [⟨S4096x4096, (extractStridedSlice S4096x4096 ![8288, 0] (transpose S12736x4096 [1, 0] (shapeCast S4096x12736 w shapeCasts_S1x4096x12736_S4096x12736) transposes_S4096x12736_S12736x4096_1_0) slices_S12736x4096_S4096x4096_8288_0 : FVec Ideal S4096x4096 .f32)⟩, ⟨S96x4096, (extractStridedSlice S96x4096 ![8192, 0] (transpose S12736x4096 [1, 0] (shapeCast S4096x12736 w shapeCasts_S1x4096x12736_S4096x12736) transposes_S4096x12736_S12736x4096_1_0) slices_S12736x4096_S96x4096_8192_0 : FVec Ideal S96x4096 .f32)⟩, ⟨S32x4096, (broadcastInDim S32x4096 ![] bcast_S_S32x4096 (constant S_ .f32 0x00000000#32) : FVec Ideal S32x4096 .f32)⟩, ⟨S96x4096, (extractStridedSlice S96x4096 ![12384, 0] (transpose S12736x4096 [1, 0] (shapeCast S4096x12736 w shapeCasts_S1x4096x12736_S4096x12736) transposes_S4096x12736_S12736x4096_1_0) slices_S12736x4096_S96x4096_12384_0 : FVec Ideal S96x4096 .f32)⟩, ⟨S32x4096, (broadcastInDim S32x4096 ![] bcast_S_S32x4096 (constant S_ .f32 0x00000000#32) : FVec Ideal S32x4096 .f32)⟩, ⟨S256x4096, (extractStridedSlice S256x4096 ![12480, 0] (transpose S12736x4096 [1, 0] (shapeCast S4096x12736 w shapeCasts_S1x4096x12736_S4096x12736) transposes_S4096x12736_S12736x4096_1_0) slices_S12736x4096_S256x4096_12480_0 : FVec Ideal S256x4096 .f32)⟩] concatenates_S4096x4096_S96x4096_S32x4096_S96x4096_S32x4096_S256x4096_S4608x4096_d0 : FVec Ideal S4608x4096 .f32)

theorem host_at (w : FVec Ideal S1x4096x12736 .f32) (a : Fin 4608) (b : Fin 4096) : host w (ix2 a b) = cols w (ix2 a b) := by
  have ha : a.val < 4608 := a.isLt
  unfold host
  pointwise
  by_cases a0 : a.val < 4096
  · rw [dif_pos a0]
    exact (cols_keys _ (by omega) (by show 8288 + a.val = a.val + 8288; omega)).symm
  rw [dif_neg a0]
  by_cases a1 : a.val - 4096 < 96
  · rw [dif_pos a1]
    exact (cols_low0 _ (by omega) (by omega) (by show 8192 + (a.val - 4096) = a.val + 4096; omega)).symm
  rw [dif_neg a1]
  by_cases a2 : a.val - 4096 - 96 < 32
  · rw [dif_pos a2]
    exact (cols_zero0 (by omega) (by omega)).symm
  rw [dif_neg a2]
  by_cases a3 : a.val - 4096 - 96 - 32 < 96
  · rw [dif_pos a3]
    exact (cols_low1 _ (by omega) (by omega) (by show 12384 + (a.val - 4096 - 96 - 32) = a.val + 8160; omega)).symm
  rw [dif_neg a3]
  by_cases a4 : a.val - 4096 - 96 - 32 - 96 < 32
  · rw [dif_pos a4]
    exact (cols_zero1 (by omega) (by omega)).symm
  rw [dif_neg a4]
  exact (cols_low2 _ (by omega) (by show 12480 + (a.val - 4096 - 96 - 32 - 96 - 32) = a.val + 8128; omega)).symm

theorem host_eq (w : FVec Ideal S1x4096x12736 .f32) : host w = cols w :=
  funext fun j => (congrArg (host w) (eq_ix2 j)).trans ((host_at w _ _).trans (congrArg (cols w) (eq_ix2 j).symm))

/-- The weight operand is the weight transposed, its rows in the call's order. -/
theorem entry_w (c : Dev nD) : V m c main_v12 = cols (m ((c : Thread nD τ).loc main_arg2)) := by
  rw [← host_eq]
  show StableHlo.after hostOps0 (fun b => m (c, b)) (Proc.devRef .tc main_v12) = _
  after_results <;> rfl

/-- The blocks each grid point reads and writes. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem read_w (c : Dev nD) (t : Fin cfg0.N) : iblk m c 1 t = fun j =>
    cols (m ((c : Thread nD τ).loc main_arg2)) (((cfg0.win 1).blk t).view.emb j) :=
  funext fun _ => congrFun (entry_w m c) _

/-- The result array after the run. -/
theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t hf y => ?_
  obtain ⟨e0, e1, e2⟩ := idx t
  blk_simp
  rw [after0_2]
  frame_out
  rw [read_x, read_w]
  unfold k0_pay1 G
  generalize rows (m ((c : Thread nD τ).loc main_arg0)) (m ((c : Thread nD τ).loc main_arg1)) = X
  generalize cols (m ((c : Thread nD τ).loc main_arg2)) = W
  pointwise
  blk_point [iblk, V, e0, e1, e2]

theorem run_kernel : θ_run defs (onTc (τ := τ) (main (F := Ideal))) ⟨m, fun _ => 0, ρ⟩ fun r => ∀ c : Dev nD,
    r.2.mem ((c : Thread nD τ).loc main_v13) = G (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    :=
  (θ_run defs _ _).mono (fun _ h c => ⟨(h c).1.trans (final m c), (h c).2⟩) (run_blocks m ρ)

theorem algebraic : Cert.algebraic_Kernel3Ideal_Reference3Ideal := by
  intro m ρ m' ρ' _ hagree
  refine ⟨fun c => G (m ((c : Thread nD τ).loc main_arg0)) (m ((c : Thread nD τ).loc main_arg1)) (m ((c : Thread nD τ).loc main_arg2)), run_kernel m ρ, ?_⟩
  refine (θ_run Cert.Reference3Ideal.defs _ _).mono (fun _ h c => ?_) (Cert.Reference3Ideal.Value.run (F := Ideal) m' ρ')
  obtain ⟨ha, hb, hc⟩ := hagree c
  exact ⟨by rw [(h c).1, ha, hb, hc]; exact ref_eq _ _ _, (h c).2⟩

end Cert.Proof.Call3

end
-- ==== Proof.Call10.lean ====
/- The layer's new shift states: of both calls of the input projection, the last row of the prompt and of each sample,
   its columns put back into the order of the weight. -/
module

public import proofs.«01_k».proof.Defs
public import proofs.«01_k».proof.Proof.Gen.Kernel10
public import proofs.«01_k».proof.Proof.Gen.Kernel10Ideal
public import proofs.«01_k».proof.Proof.Run10
public import proofs.«01_k».proof.Proof.Gen.Reference10Ideal
public import proofs.«01_k».proof.Proof.Gen.Reference10Ideal.Run
public import proofs.«01_k».proof.Proof.Rows
public import proofs.«01_k».proof.Proof.Call2
public import proofs.«01_k».proof.Proof.Call3
public import Idealize.ShloMosaic.Lib.Routing.Ops
public import Idealize.ShloMosaic.Lib.Pipeline.ValueKit
public import Idealize.ShloMosaic.Lib.Pointwise
public import Idealize.ShloMosaic.Lib.Claim
public import Idealize.ShloMosaic.Lib.StableHlo.Run
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call10

/-- The printed program and the idealized one run the same two bodies. -/
theorem bodies_eq : Cert.Kernel10.defs₀ (F := Bits) = Cert.Kernel10Ideal.defs₀ (F := Bits) := by
  unfold Cert.Kernel10.defs₀ Cert.Kernel10Ideal.defs₀
  refine congrArg Defs.onTc ?_
  funext l a
  match l, a with
  | ⟨0, _⟩, _ => rfl
  | ⟨1, _⟩, _ => rfl

theorem defs_eq : Cert.Kernel10.defs (F := Bits) = Cert.Kernel10Ideal.defs (F := Bits) :=
  congrArg (Pipeline.defs Cert.Kernel10Ideal.pcfgs) bodies_eq

set_option maxHeartbeats 4000000 in
theorem frame_p : Cert.quiescent_Kernel10 := fun m ρ _ => by
  have h := Run10.unchanged (F := Bits) m ρ
  rw [← defs_eq] at h
  exact h
theorem frame_pi : Cert.quiescent_Kernel10Ideal := fun m ρ _ => Run10.unchanged (F := Ideal) m ρ
theorem frame_ri : Cert.quiescent_Reference10Ideal := fun m ρ _ =>
  (θ_run Cert.Reference10Ideal.defs _ _).mono (fun r h => ⟨fun c => (h c).2.2,
      sem_eq_zero_of_no_sems (by decide) r.2⟩)
    (Cert.Reference10Ideal.Value.run (F := Ideal) m ρ)
theorem preserves : Cert.preserves_Kernel10_Kernel10Ideal := trivial

open Cert.Kernel10Ideal Cert.Kernel10Ideal.Gen Run10

variable (m : (ℓ : Loc nD τ sig) → Buf (Elt Ideal) ℓ) (ρ : Dev nD → PrngReg)

/-! The two calls. -/

theorem entry_x (c : Dev nD) : V1 m ρ c main_v4 = rows (m ((c : Thread nD τ).loc main_arg0)) (m ((c : Thread nD τ).loc main_arg1)) := by
  show StableHlo.after hostOps0 (fun b => m (c, b)) (Proc.devRef .tc main_v4) = _
  after_results
  exact rows_cast_eq _ _ _ _ _ _ _

theorem entry_w (c : Dev nD) : V1 m ρ c main_v6 = fun j => m ((c : Thread nD τ).loc main_arg2) (ix3 0 (j 1) (j 0)) := by
  show StableHlo.after hostOps0 (fun b => m (c, b)) (Proc.devRef .tc main_v6) = _
  after_results
  funext j
  pointwise

theorem entry_rest (c : Dev nD) : V1 m ρ c main_v12 = Call3.cols (m ((c : Thread nD τ).loc main_arg2)) := by
  rw [← Call3.host_eq]
  show StableHlo.after hostOps0 (fun b => m (c, b)) (Proc.devRef .tc main_v12) = _
  after_results <;> rfl

/-- The row number of the prompt's last row, which the operations after the calls read. -/
theorem entry_c (c : Dev nD) : V1 m ρ c main_c = constantI S1 32 8191#32 := by
  show StableHlo.after hostOps0 (fun b => m (c, b)) (Proc.devRef .tc main_c) = _
  after_results <;> rfl

theorem idx0 : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)

theorem read0_x (c : Dev nD) (t : Fin cfg0.N) : iblk0 (V1 m ρ) c 0 t = fun j =>
    rows (m ((c : Thread nD τ).loc main_arg0)) (m ((c : Thread nD τ).loc main_arg1)) (((cfg0.win 0).blk t).view.emb j) :=
  funext fun _ => congrFun (entry_x m ρ c) _

theorem read0_w (c : Dev nD) (t : Fin cfg0.N) : wblk (V1 m ρ) c t = fun j : S256x4096.Idx =>
    m ((c : Thread nD τ).loc main_arg2) (ix3 0 (j 1) ⟨(grid0.coords t 1).val * 256 + (j 0).val, by
      have h : (grid0.coords t 1).val < 32 := (grid0.coords t 1).isLt
      have h' : (j 0).val < 256 := (j 0).isLt
      omega⟩) := by
  obtain ⟨-, e1, -⟩ := idx0 t
  funext j
  unfold wblk Pipeline.Window.fill
  rw [dif_pos (wmoved t j)]
  refine (congrFun (entry_w m ρ c) _).trans ?_
  blk_ext [e1]

/-- The first call's result: the rows' products with the first 8192 columns. -/
theorem final0 (c : Dev nD) : (dat0 (V1 m ρ) c).arrAt 2 cfg0.N
    = Call2.G (m ((c : Thread nD τ).loc main_arg0)) (m ((c : Thread nD τ).loc main_arg1)) (m ((c : Thread nD τ).loc main_arg2)) := by
  refine (dat0 (V1 m ρ) c).arrAt_eq_of_covers 2 _ (by decide +kernel) fun t hf y => ?_
  obtain ⟨e0, e1, e2⟩ := idx0 t
  blk_simp
  rw [after0_2]
  frame_out
  rw [read0_x, read0_w]
  unfold k0_pay1 Call2.G
  generalize rows (m ((c : Thread nD τ).loc main_arg0)) (m ((c : Thread nD τ).loc main_arg1)) = X
  pointwise
  blk_point [iblk0, V1, e0, e1, e2]

theorem read1_x (c : Dev nD) (t : Fin cfg1.N) : iblk1 (V2 m ρ) c 0 t = fun j =>
    rows (m ((c : Thread nD τ).loc main_arg0)) (m ((c : Thread nD τ).loc main_arg1)) (((cfg1.win 0).blk t).view.emb j) :=
  funext fun _ => congrFun ((W2_of m ρ c main_v4 (by decide)).trans (entry_x m ρ c)) _

theorem read1_w (c : Dev nD) (t : Fin cfg1.N) : iblk1 (V2 m ρ) c 1 t = fun j =>
    Call3.cols (m ((c : Thread nD τ).loc main_arg2)) (((cfg1.win 1).blk t).view.emb j) :=
  funext fun _ => congrFun ((W2_of m ρ c main_v12 (by decide)).trans (entry_rest m ρ c)) _

/-- The second call's result: the rows' products with the other columns, in the call's order. -/
theorem final1 (c : Dev nD) : (dat1 (V2 m ρ) c).arrAt 2 cfg1.N
    = Call3.G (m ((c : Thread nD τ).loc main_arg0)) (m ((c : Thread nD τ).loc main_arg1)) (m ((c : Thread nD τ).loc main_arg2)) := by
  refine (dat1 (V2 m ρ) c).arrAt_eq_of_covers 2 _ (by decide +kernel) fun t hf y => ?_
  obtain ⟨e0, e1, e2⟩ := idx1 t
  blk_simp
  rw [after1_2]
  frame_out
  rw [read1_x, read1_w]
  unfold k1_pay1 Call3.G
  generalize rows (m ((c : Thread nD τ).loc main_arg0)) (m ((c : Thread nD τ).loc main_arg1)) = X
  generalize Call3.cols (m ((c : Thread nD τ).loc main_arg2)) = W
  pointwise
  blk_point [iblk1, V2, e0, e1, e2]

/-! The rows taken, and their columns in the weight's order. -/

/-- A row's products with the weight's columns from 6144. -/
def T (xp : FVec Ideal S1x8192x4096 .f32) (xs : FVec Ideal S32x8x4096 .f32) (w : FVec Ideal S1x4096x12736 .f32) (r : Fin 8448) (j : Fin 6592) : Ideal .f32 :=
  ∑ k : Fin 4096, rows xp xs (ix2 r k) * w (ix3 0 k ⟨j.val + 6144, by omega⟩)

theorem first_at (xp : FVec Ideal S1x8192x4096 .f32) (xs : FVec Ideal S32x8x4096 .f32) (w : FVec Ideal S1x4096x12736 .f32) (r : Fin 8448) (c : Fin 8192)
    (j : Fin 6592) (h : c.val = j.val + 6144) : Call2.G xp xs w (ix2 r c) = T xp xs w r j := by
  unfold T Call2.G
  exact Finset.sum_congr rfl fun k _ => congrArg (fun q => rows xp xs (ix2 r k) * w (ix3 0 k q)) (Fin.ext h)

theorem second_at (xp : FVec Ideal S1x8192x4096 .f32) (xs : FVec Ideal S32x8x4096 .f32) (w : FVec Ideal S1x4096x12736 .f32) (r : Fin 8448) (c : Fin 4608)
    (j : Fin 6592) (h : ∀ k, Call3.cols w (ix2 c k) = w (ix3 0 k ⟨j.val + 6144, by omega⟩)) : Call3.G xp xs w (ix2 r c) = T xp xs w r j := by
  unfold T Call3.G
  exact Finset.sum_congr rfl fun k _ => congrArg (rows xp xs (ix2 r k) * ·) (h k)

/-- A row number as the gather takes it: one below zero counts from the end. -/
def numP (c : IVec S1 32) : IVec S1x1 32 :=
  broadcastInDim S1x1 ![0] bcast_S1_S1x1_0 (select (cmpi .slt c (broadcastInDim S1 ![] bcast_S_S1 (constantI S_ 32 0#32)))
    (addi c (broadcastInDim S1 ![] bcast_S_S1 (constantI S_ 32 8448#32))) c)

/-- The samples' last rows: 8199 and every eighth row after it. -/
def lastS : IVec S32 32 :=
  addi (broadcastInDim S32 ![] bcast_S_S32 (constantI S_ 32 8199#32)) (muli (broadcastInDim S32 ![] bcast_S_S32 (constantI S_ 32 8#32)) (iotaInDim S32 32 0))

def numS : IVec S32x1 32 :=
  broadcastInDim S32x1 ![0] bcast_S32_S32x1_0 (select (cmpi .slt lastS (broadcastInDim S32 ![] bcast_S_S32 (constantI S_ 32 0#32)))
    (addi lastS (broadcastInDim S32 ![] bcast_S_S32 (constantI S_ 32 8448#32))) lastS)

theorem numP_at : ∀ a : Fin 1, numP (constantI S1 32 8191#32) (ix2 a (0 : Fin 1)) = BitVec.ofNat 32 8191 := by decide +kernel

theorem numS_at : ∀ a : Fin 32, numS (ix2 a (0 : Fin 1)) = BitVec.ofNat 32 (8199 + 8 * a.val) := by decide +kernel

/-- One row of the first call's result beside one of the second's, the columns in the weight's order. -/
def catP (P : FVec Ideal S1x8192 .f32) (Q : FVec Ideal S1x4608 .f32) : FVec Ideal S1x1x6592 .f32 :=
  broadcastInDim S1x1x6592 ![1, 2] bcast_S1x6592_S1x1x6592_1_2 (concatenate S1x6592 1
    [⟨S1x2048, (extractStridedSlice S1x2048 ![0, 6144] P slices_S1x8192_S1x2048_0_6144 : FVec Ideal S1x2048 .f32)⟩,
     ⟨S1x96, (extractStridedSlice S1x96 ![0, 4096] Q slices_S1x4608_S1x96_0_4096 : FVec Ideal S1x96 .f32)⟩,
     ⟨S1x4096, (extractStridedSlice S1x4096 ![0, 0] Q slices_S1x4608_S1x4096_0_0 : FVec Ideal S1x4096 .f32)⟩,
     ⟨S1x96, (extractStridedSlice S1x96 ![0, 4224] Q slices_S1x4608_S1x96_0_4224 : FVec Ideal S1x96 .f32)⟩,
     ⟨S1x256, (extractStridedSlice S1x256 ![0, 4352] Q slices_S1x4608_S1x256_0_4352 : FVec Ideal S1x256 .f32)⟩]
    concatenates_S1x2048_S1x96_S1x4096_S1x96_S1x256_S1x6592_d1 : FVec Ideal S1x6592 .f32)

def catS (P : FVec Ideal S32x8192 .f32) (Q : FVec Ideal S32x4608 .f32) : FVec Ideal S1x32x6592 .f32 :=
  broadcastInDim S1x32x6592 ![1, 2] bcast_S32x6592_S1x32x6592_1_2 (concatenate S32x6592 1
    [⟨S32x2048, (extractStridedSlice S32x2048 ![0, 6144] P slices_S32x8192_S32x2048_0_6144 : FVec Ideal S32x2048 .f32)⟩,
     ⟨S32x96, (extractStridedSlice S32x96 ![0, 4096] Q slices_S32x4608_S32x96_0_4096 : FVec Ideal S32x96 .f32)⟩,
     ⟨S32x4096, (extractStridedSlice S32x4096 ![0, 0] Q slices_S32x4608_S32x4096_0_0 : FVec Ideal S32x4096 .f32)⟩,
     ⟨S32x96, (extractStridedSlice S32x96 ![0, 4224] Q slices_S32x4608_S32x96_0_4224 : FVec Ideal S32x96 .f32)⟩,
     ⟨S32x256, (extractStridedSlice S32x256 ![0, 4352] Q slices_S32x4608_S32x256_0_4352 : FVec Ideal S32x256 .f32)⟩]
    concatenates_S32x2048_S32x96_S32x4096_S32x96_S32x256_S32x6592_d1 : FVec Ideal S32x6592 .f32)

theorem catP_eq (P : FVec Ideal S1x8192 .f32) (Q : FVec Ideal S1x4608 .f32) (xp : FVec Ideal S1x8192x4096 .f32) (xs : FVec Ideal S32x8x4096 .f32) (w : FVec Ideal S1x4096x12736 .f32)
    (r : Fin 8448) (hP : ∀ a c, P (ix2 a c) = Call2.G xp xs w (ix2 r c)) (hQ : ∀ a c, Q (ix2 a c) = Call3.G xp xs w (ix2 r c)) :
    catP P Q = fun i => T xp xs w r (i 2) := by
  funext i
  have hi : (i 2).val < 6592 := (i 2).isLt
  unfold catP
  pointwise
  by_cases a0 : (i 2).val < 2048
  · rw [dif_pos a0]
    exact (hP _ _).trans (first_at xp xs w _ _ _ (by show 6144 + (i 2).val = (i 2).val + 6144; omega))
  rw [dif_neg a0]
  by_cases a1 : (i 2).val - 2048 < 96
  · rw [dif_pos a1]
    exact (hQ _ _).trans (second_at xp xs w _ _ _ fun k => Call3.cols_low0 _ (by show ¬4096 + ((i 2).val - 2048) < 4096; omega)
      (by show 4096 + ((i 2).val - 2048) < 4192; omega) (by show (i 2).val + 6144 = 4096 + ((i 2).val - 2048) + 4096; omega))
  rw [dif_neg a1]
  by_cases a2 : (i 2).val - 2048 - 96 < 4096
  · rw [dif_pos a2]
    exact (hQ _ _).trans (second_at xp xs w _ _ _ fun k => Call3.cols_keys _ (by show (i 2).val - 2048 - 96 < 4096; omega)
      (by show (i 2).val + 6144 = (i 2).val - 2048 - 96 + 8288; omega))
  rw [dif_neg a2]
  by_cases a3 : (i 2).val - 2048 - 96 - 4096 < 96
  · rw [dif_pos a3]
    exact (hQ _ _).trans (second_at xp xs w _ _ _ fun k => Call3.cols_low1 _ (by show ¬4224 + ((i 2).val - 2048 - 96 - 4096) < 4224; omega)
      (by show 4224 + ((i 2).val - 2048 - 96 - 4096) < 4320; omega) (by show (i 2).val + 6144 = 4224 + ((i 2).val - 2048 - 96 - 4096) + 8160; omega))
  rw [dif_neg a3]
  exact (hQ _ _).trans (second_at xp xs w _ _ _ fun k => Call3.cols_low2 _ (by show ¬4352 + ((i 2).val - 2048 - 96 - 4096 - 96) < 4352; omega)
    (by show (i 2).val + 6144 = 4352 + ((i 2).val - 2048 - 96 - 4096 - 96) + 8128; omega))

theorem catS_eq (P : FVec Ideal S32x8192 .f32) (Q : FVec Ideal S32x4608 .f32) (xp : FVec Ideal S1x8192x4096 .f32) (xs : FVec Ideal S32x8x4096 .f32) (w : FVec Ideal S1x4096x12736 .f32)
    (r : Fin 32 → Fin 8448) (hP : ∀ a c, P (ix2 a c) = Call2.G xp xs w (ix2 (r a) c)) (hQ : ∀ a c, Q (ix2 a c) = Call3.G xp xs w (ix2 (r a) c)) :
    catS P Q = fun i => T xp xs w (r (i 1)) (i 2) := by
  funext i
  have hi : (i 2).val < 6592 := (i 2).isLt
  unfold catS
  pointwise
  by_cases a0 : (i 2).val < 2048
  · rw [dif_pos a0]
    exact (hP _ _).trans (first_at xp xs w _ _ _ (by show 6144 + (i 2).val = (i 2).val + 6144; omega))
  rw [dif_neg a0]
  by_cases a1 : (i 2).val - 2048 < 96
  · rw [dif_pos a1]
    exact (hQ _ _).trans (second_at xp xs w _ _ _ fun k => Call3.cols_low0 _ (by show ¬4096 + ((i 2).val - 2048) < 4096; omega)
      (by show 4096 + ((i 2).val - 2048) < 4192; omega) (by show (i 2).val + 6144 = 4096 + ((i 2).val - 2048) + 4096; omega))
  rw [dif_neg a1]
  by_cases a2 : (i 2).val - 2048 - 96 < 4096
  · rw [dif_pos a2]
    exact (hQ _ _).trans (second_at xp xs w _ _ _ fun k => Call3.cols_keys _ (by show (i 2).val - 2048 - 96 < 4096; omega)
      (by show (i 2).val + 6144 = (i 2).val - 2048 - 96 + 8288; omega))
  rw [dif_neg a2]
  by_cases a3 : (i 2).val - 2048 - 96 - 4096 < 96
  · rw [dif_pos a3]
    exact (hQ _ _).trans (second_at xp xs w _ _ _ fun k => Call3.cols_low1 _ (by show ¬4224 + ((i 2).val - 2048 - 96 - 4096) < 4224; omega)
      (by show 4224 + ((i 2).val - 2048 - 96 - 4096) < 4320; omega) (by show (i 2).val + 6144 = 4224 + ((i 2).val - 2048 - 96 - 4096) + 8160; omega))
  rw [dif_neg a3]
  exact (hQ _ _).trans (second_at xp xs w _ _ _ fun k => Call3.cols_low2 _ (by show ¬4352 + ((i 2).val - 2048 - 96 - 4096 - 96) < 4352; omega)
    (by show (i 2).val + 6144 = 4352 + ((i 2).val - 2048 - 96 - 4096 - 96) + 8128; omega))

/-! What the operations after the calls leave. -/

theorem line_v60 (W : Valuation τ sig (Elt Ideal)) :
    StableHlo.after hostOps2 W (Proc.devRef .tc main_v60) = catP
      (Host.gather gather_S8448x8192_S1x1_S1x8192_1_0_n_n_0_1_18192 (W (Proc.devRef .tc main_v13)) (numP (W (Proc.devRef .tc main_c))))
      (Host.gather gather_S8448x4608_S1x1_S1x4608_1_0_n_n_0_1_14608 (W (Proc.devRef .tc main_v14)) (numP (W (Proc.devRef .tc main_c)))) := by
  after_results <;> rfl

theorem line_v61 (W : Valuation τ sig (Elt Ideal)) :
    StableHlo.after hostOps2 W (Proc.devRef .tc main_v61) = catS
      (Host.gather gather_S8448x8192_S32x1_S32x8192_1_0_n_n_0_1_18192 (W (Proc.devRef .tc main_v13)) numS)
      (Host.gather gather_S8448x4608_S32x1_S32x4608_1_0_n_n_0_1_14608 (W (Proc.devRef .tc main_v14)) numS) := by
  after_results <;> rfl

theorem found0 (c : Dev nD) : W3 m ρ c (Proc.devRef .tc main_v13)
    = Call2.G (m ((c : Thread nD τ).loc main_arg0)) (m ((c : Thread nD τ).loc main_arg1)) (m ((c : Thread nD τ).loc main_arg2)) :=
  (W3_of m ρ c main_v13 (by decide)).trans ((W2_arr m ρ c 2).trans (final0 m ρ c))

theorem found1 (c : Dev nD) : W3 m ρ c (Proc.devRef .tc main_v14)
    = Call3.G (m ((c : Thread nD τ).loc main_arg0)) (m ((c : Thread nD τ).loc main_arg1)) (m ((c : Thread nD τ).loc main_arg2)) :=
  (W3_arr m ρ c 2).trans (final1 m ρ c)

theorem found_c (c : Dev nD) : W3 m ρ c (Proc.devRef .tc main_c) = constantI S1 32 8191#32 :=
  (W3_of m ρ c main_c (by decide)).trans ((W2_of m ρ c main_c (by decide)).trans (entry_c m ρ c))

/-- The prompt's new shift state. -/
def newP (xp : FVec Ideal S1x8192x4096 .f32) (xs : FVec Ideal S32x8x4096 .f32) (w : FVec Ideal S1x4096x12736 .f32) : FVec Ideal S1x1x6592 .f32 :=
  fun i => T xp xs w 8191 (i 2)

/-- The samples'. -/
def newS (xp : FVec Ideal S1x8192x4096 .f32) (xs : FVec Ideal S32x8x4096 .f32) (w : FVec Ideal S1x4096x12736 .f32) : FVec Ideal S1x32x6592 .f32 :=
  fun i => T xp xs w ⟨8199 + 8 * (i 1).val, by have : (i 1).val < 32 := (i 1).isLt; omega⟩ (i 2)

theorem end_v60 (c : Dev nD) : W4 m ρ c (Proc.devRef .tc main_v60)
    = newP (m ((c : Thread nD τ).loc main_arg0)) (m ((c : Thread nD τ).loc main_arg1)) (m ((c : Thread nD τ).loc main_arg2)) := by
  refine (line_v60 _).trans ?_
  rw [found0, found1, found_c]
  exact catP_eq _ _ _ _ _ 8191
    (fun a q => Routing.gather_row _ rfl rfl rfl rfl rfl _ _ a q 8191 (numP_at a) (by decide))
    (fun a q => Routing.gather_row _ rfl rfl rfl rfl rfl _ _ a q 8191 (numP_at a) (by decide))

theorem end_v61 (c : Dev nD) : W4 m ρ c (Proc.devRef .tc main_v61)
    = newS (m ((c : Thread nD τ).loc main_arg0)) (m ((c : Thread nD τ).loc main_arg1)) (m ((c : Thread nD τ).loc main_arg2)) := by
  refine (line_v61 _).trans ?_
  rw [found0, found1]
  exact catS_eq _ _ _ _ _ (fun a => ⟨8199 + 8 * a.val, by omega⟩)
    (fun a q => Routing.gather_row _ rfl rfl rfl rfl rfl _ _ a q _ (numS_at a) (by decide))
    (fun a q => Routing.gather_row _ rfl rfl rfl rfl rfl _ _ a q _ (numS_at a) (by decide))

theorem run_kernel : θ_run defs (onTc (τ := τ) (main (F := Ideal))) ⟨m, fun _ => 0, ρ⟩ fun r => ∀ c : Dev nD,
    r.2.mem ((c : Thread nD τ).loc main_v60) = newP (m ((c : Thread nD τ).loc main_arg0)) (m ((c : Thread nD τ).loc main_arg1)) (m ((c : Thread nD τ).loc main_arg2))
    ∧ r.2.mem ((c : Thread nD τ).loc main_v61) = newS (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h.1.1 c _ (mem_uc main_v60 (by decide))).trans (end_v60 m ρ c),
      (h.1.1 c _ (mem_uc main_v61 (by decide))).trans (end_v61 m ρ c), h.2.1 c⟩)
    (θ_run_and (run m ρ) (unchanged m ρ))

/-! The reference. -/

theorem refP (xp : FVec Ideal S1x8192x4096 .f32) (xs : FVec Ideal S32x8x4096 .f32) (w : FVec Ideal S1x4096x12736 .f32) :
    newP xp xs w = (broadcastInDim Cert.Reference10Ideal.S1x1x6592 ![1, 2] Cert.Reference10Ideal.Facts₀.bcast_S1x6592_S1x1x6592_1_2 (shapeCast _ (extractStridedSlice Cert.Reference10Ideal.S1x1x6592 ![0, 8191, 0] (extractStridedSlice Cert.Reference10Ideal.S1x8192x6592 ![0, 0, 6144] (Host.dotGeneral (F := Ideal) (φ₁ := .f32) (φ₂ := .f32) Cert.Reference10Ideal.dot_S1x8192x4096_S4096x12736_S1x8192x12736_2_0_01_1_n_n none xp (shapeCast _ w Cert.Reference10Ideal.Facts₀.shapeCasts_S1x4096x12736_S4096x12736)) Cert.Reference10Ideal.Facts₀.slices_S1x8192x12736_S1x8192x6592_0_0_6144) Cert.Reference10Ideal.Facts₀.slices_S1x8192x6592_S1x1x6592_0_8191_0) Cert.Reference10Ideal.Facts₀.shapeCasts_S1x1x6592_S1x6592) : FVec Ideal S1x1x6592 .f32) := by
  funext i
  unfold newP T rows
  pointwise
  exact Finset.sum_congr rfl fun k _ => congrArg (fun q => xp (ix3 0 8191 k) * w (ix3 0 k q)) (Fin.ext (Nat.add_comm _ _))

/-- A sample's last row among the rows. -/
theorem rows_last (xp : FVec Ideal S1x8192x4096 .f32) (xs : FVec Ideal S32x8x4096 .f32) (b : Fin 32) (h : 8199 + 8 * b.val < 8448) (k : Fin 4096) :
    rows xp xs (ix2 ⟨8199 + 8 * b.val, h⟩ k) = xs (ix3 b 7 k) := by
  have e : (⟨(8199 + 8 * b.val - 8192) / 8, by omega⟩ : Fin 32) = b := Fin.ext (by show (8199 + 8 * b.val - 8192) / 8 = b.val; omega)
  have e' : (⟨(8199 + 8 * b.val - 8192) % 8, by omega⟩ : Fin 8) = 7 := Fin.ext (by show (8199 + 8 * b.val - 8192) % 8 = 7; omega)
  have step : rows xp xs (ix2 ⟨8199 + 8 * b.val, h⟩ k) = xs (ix3 ⟨(8199 + 8 * b.val - 8192) / 8, by omega⟩ ⟨(8199 + 8 * b.val - 8192) % 8, by omega⟩ k) :=
    dif_neg (show ¬8199 + 8 * b.val < 8192 by omega)
  rw [step, e, e']

theorem refS (xp : FVec Ideal S1x8192x4096 .f32) (xs : FVec Ideal S32x8x4096 .f32) (w : FVec Ideal S1x4096x12736 .f32) :
    newS xp xs w = (broadcastInDim Cert.Reference10Ideal.S1x32x6592 ![1, 2] Cert.Reference10Ideal.Facts₀.bcast_S32x6592_S1x32x6592_1_2 (shapeCast _ (extractStridedSlice Cert.Reference10Ideal.S32x1x6592 ![0, 7, 0] (extractStridedSlice Cert.Reference10Ideal.S32x8x6592 ![0, 0, 6144] (Host.dotGeneral (F := Ideal) (φ₁ := .f32) (φ₂ := .f32) Cert.Reference10Ideal.dot_S32x8x4096_S4096x12736_S32x8x12736_2_0_01_1_n_n none xs (shapeCast _ w Cert.Reference10Ideal.Facts₀.shapeCasts_S1x4096x12736_S4096x12736)) Cert.Reference10Ideal.Facts₀.slices_S32x8x12736_S32x8x6592_0_0_6144) Cert.Reference10Ideal.Facts₀.slices_S32x8x6592_S32x1x6592_0_7_0) Cert.Reference10Ideal.Facts₀.shapeCasts_S32x1x6592_S32x6592) : FVec Ideal S1x32x6592 .f32) := by
  funext i
  unfold newS T
  pointwise
  refine Finset.sum_congr rfl fun k _ => (congrArg (· * w (ix3 0 k ⟨(i 2).val + 6144, _⟩)) (rows_last xp xs (i 1) _ k)).trans ?_
  exact congrArg (fun q => xs (ix3 (i 1) 7 k) * w (ix3 0 k q)) (Fin.ext (Nat.add_comm _ _))

theorem algebraic : Cert.algebraic_Kernel10Ideal_Reference10Ideal := by
  intro m ρ m' ρ' _ hagree
  refine ⟨fun c => newP (m ((c : Thread nD τ).loc main_arg0)) (m ((c : Thread nD τ).loc main_arg1)) (m ((c : Thread nD τ).loc main_arg2)),
    fun c => newS (m ((c : Thread nD τ).loc main_arg0)) (m ((c : Thread nD τ).loc main_arg1)) (m ((c : Thread nD τ).loc main_arg2)),
    run_kernel m ρ, ?_⟩
  refine (θ_run Cert.Reference10Ideal.defs _ _).mono (fun _ h c => ?_) (Cert.Reference10Ideal.Value.run (F := Ideal) m' ρ')
  obtain ⟨ha, hb, hc⟩ := hagree c
  obtain ⟨h0, h1, hk⟩ := h c
  rw [ha, hc] at h0
  rw [hb, hc] at h1
  exact ⟨h0.trans (refP _ _ _).symm, h1.trans (refS _ _ _).symm, hk⟩

end Cert.Proof.Call10

end
-- ==== Proof.Call4.lean ====
/- The two branches under their gates: the tiled kernel gives the reference's gated sum. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call4

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      sem_eq_zero_of_no_sems (by decide) r.2⟩)
    (Cert.Reference4Ideal.Value.run (F := Ideal) m ρ)
theorem preserves : Cert.preserves_Kernel4_Kernel4Ideal := trivial

open Cert.Kernel4Ideal Cert.Kernel4Ideal.Gen Cert.Kernel4Ideal.Value

variable (m : (ℓ : Loc nD τ sig) → Buf (Elt Ideal) ℓ) (ρ : Dev nD → PrngReg)

/-- A gate: the logistic of a row's product with a column of the gate weights, and its bias. -/
def gate (x : FVec Ideal S8448x4096 .f32) (wg : FVec Ideal S1x4096x8192 .f32) (bg : FVec Ideal S1x8192 .f32) (r : Fin 8448) (j : Fin 8192) : Ideal .f32 :=
  Ideal.div 1 (1 + Ideal.exp (-((∑ k : Fin 4096, x (ix2 r k) * wg (ix3 0 k j)) + bg (ix2 0 j))))

/-- The two branches' projections, each times its gate, added. -/
def G (xp : FVec Ideal S1x8192x4096 .f32) (xs : FVec Ideal S32x8x4096 .f32) (oa : FVec Ideal S8448x2048 .f32) (orr : FVec Ideal S8448x2048 .f32)
    (wg : FVec Ideal S1x4096x8192 .f32) (bg : FVec Ideal S1x8192 .f32) (wa : FVec Ideal S1x2048x4096 .f32) (wb : FVec Ideal S1x2048x4096 .f32) : FVec Ideal S8448x4096 .bf16 :=
  fun i => gate (rows xp xs) wg bg (i 0) ⟨(i 1).val, by have : (i 1).val < 4096 := (i 1).isLt; omega⟩ * (∑ k : Fin 2048, oa (ix2 (i 0) k) * wa (ix3 0 k (i 1)))
    + gate (rows xp xs) wg bg (i 0) ⟨(i 1).val + 4096, by have : (i 1).val < 4096 := (i 1).isLt; omega⟩ * (∑ k : Fin 2048, orr (ix2 (i 0) k) * wb (ix3 0 k (i 1)))

/-- The reference's gated sum is `G`. -/
theorem ref_eq (xp : FVec Ideal S1x8192x4096 .f32) (xs : FVec Ideal S32x8x4096 .f32) (oa : FVec Ideal S8448x2048 .f32) (orr : FVec Ideal S8448x2048 .f32)
    (wg : FVec Ideal S1x4096x8192 .f32) (bg : FVec Ideal S1x8192 .f32) (wa : FVec Ideal S1x2048x4096 .f32) (wb : FVec Ideal S1x2048x4096 .f32) :
    truncf (F := Ideal) .bf16 (addf (mulf (extractStridedSlice Cert.Reference4Ideal.S8448x4096 ![0, 0] (Host.divf (broadcastInDim Cert.Reference4Ideal.S8448x8192 ![] Cert.Reference4Ideal.Facts₀.bcast_S_S8448x8192 (constant Cert.Reference4Ideal.S_ .f32 0x3F800000#32)) (addf (broadcastInDim Cert.Reference4Ideal.S8448x8192 ![] Cert.Reference4Ideal.Facts₀.bcast_S_S8448x8192 (constant Cert.Reference4Ideal.S_ .f32 0x3F800000#32)) (Host.exp (Host.negf (addf (Host.dotGeneral (φ₁ := .f32) (φ₂ := .f32) Cert.Reference4Ideal.dot_S8448x4096_S4096x8192_S8448x8192_1_0_0_1_n_n none (concatenate Cert.Reference4Ideal.S8448x4096 0 [⟨Cert.Reference4Ideal.S8192x4096, (shapeCast _ xp Cert.Reference4Ideal.Facts₀.shapeCasts_S1x8192x4096_S8192x4096)⟩, ⟨Cert.Reference4Ideal.S256x4096, (shapeCast _ xs Cert.Reference4Ideal.Facts₀.shapeCasts_S32x8x4096_S256x4096)⟩] Cert.Reference4Ideal.Facts₀.concatenates_S8192x4096_S256x4096_S8448x4096_d0) (shapeCast _ wg Cert.Reference4Ideal.Facts₀.shapeCasts_S1x4096x8192_S4096x8192)) (broadcastInDim Cert.Reference4Ideal.S8448x8192 ![0, 1] Cert.Reference4Ideal.Facts₀.bcast_S1x8192_S8448x8192_0_1 (broadcastInDim Cert.Reference4Ideal.S1x8192 ![1] Cert.Reference4Ideal.Facts₀.bcast_S8192_S1x8192_1 (shapeCast _ bg Cert.Reference4Ideal.Facts₀.shapeCasts_S1x8192_S8192)))))))) Cert.Reference4Ideal.Facts₀.slices_S8448x8192_S8448x4096_0_0) (Host.dotGeneral (φ₁ := .f32) (φ₂ := .f32) Cert.Reference4Ideal.dot_S8448x2048_S2048x4096_S8448x4096_1_0_0_1_n_n none oa (shapeCast _ wa Cert.Reference4Ideal.Facts₀.shapeCasts_S1x2048x4096_S2048x4096))) (mulf (extractStridedSlice Cert.Reference4Ideal.S8448x4096 ![0, 4096] (Host.divf (broadcastInDim Cert.Reference4Ideal.S8448x8192 ![] Cert.Reference4Ideal.Facts₀.bcast_S_S8448x8192 (constant Cert.Reference4Ideal.S_ .f32 0x3F800000#32)) (addf (broadcastInDim Cert.Reference4Ideal.S8448x8192 ![] Cert.Reference4Ideal.Facts₀.bcast_S_S8448x8192 (constant Cert.Reference4Ideal.S_ .f32 0x3F800000#32)) (Host.exp (Host.negf (addf (Host.dotGeneral (φ₁ := .f32) (φ₂ := .f32) Cert.Reference4Ideal.dot_S8448x4096_S4096x8192_S8448x8192_1_0_0_1_n_n none (concatenate Cert.Reference4Ideal.S8448x4096 0 [⟨Cert.Reference4Ideal.S8192x4096, (shapeCast _ xp Cert.Reference4Ideal.Facts₀.shapeCasts_S1x8192x4096_S8192x4096)⟩, ⟨Cert.Reference4Ideal.S256x4096, (shapeCast _ xs Cert.Reference4Ideal.Facts₀.shapeCasts_S32x8x4096_S256x4096)⟩] Cert.Reference4Ideal.Facts₀.concatenates_S8192x4096_S256x4096_S8448x4096_d0) (shapeCast _ wg Cert.Reference4Ideal.Facts₀.shapeCasts_S1x4096x8192_S4096x8192)) (broadcastInDim Cert.Reference4Ideal.S8448x8192 ![0, 1] Cert.Reference4Ideal.Facts₀.bcast_S1x8192_S8448x8192_0_1 (broadcastInDim Cert.Reference4Ideal.S1x8192 ![1] Cert.Reference4Ideal.Facts₀.bcast_S8192_S1x8192_1 (shapeCast _ bg Cert.Reference4Ideal.Facts₀.shapeCasts_S1x8192_S8192)))))))) Cert.Reference4Ideal.Facts₀.slices_S8448x8192_S8448x4096_0_4096) (Host.dotGeneral (φ₁ := .f32) (φ₂ := .f32) Cert.Reference4Ideal.dot_S8448x2048_S2048x4096_S8448x4096_1_0_0_1_n_n none orr (shapeCast _ wb Cert.Reference4Ideal.Facts₀.shapeCasts_S1x2048x4096_S2048x4096)))) Cert.Reference4Ideal.Facts₀.bitsLt_bf16_f32
      = G xp xs oa orr wg bg wa wb := by
  funext i
  unfold G gate
  rw [rows_eq]
  pointwise
  simp only [Nat.add_comm 4096]

/-- The row operand of the call holds these rows. -/
theorem entry_x (c : Dev nD) : V m c main_v4 = rows (m ((c : Thread nD τ).loc main_arg0)) (m ((c : Thread nD τ).loc main_arg1)) := by
  entry_read
  exact rows_cast_eq _ _ _ _ _ _ _

theorem read_x (c : Dev nD) (t : Fin cfg0.N) : iblk m c 0 t = fun j =>
    rows (m ((c : Thread nD τ).loc main_arg0)) (m ((c : Thread nD τ).loc main_arg1)) (((cfg0.win 0).blk t).view.emb j) :=
  funext fun _ => congrFun (entry_x m c) _

/-- The blocks each grid point reads and writes. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, (grid0.coords t 1).val]
    ∧ win0_4.index t = ![0, (grid0.coords t 1).val + 16] ∧ win0_5.index t = ![0, (grid0.coords t 1).val]
    ∧ win0_6.index t = ![0, (grid0.coords t 1).val + 16] ∧ win0_7.index t = ![0, (grid0.coords t 1).val]
    ∧ win0_8.index t = ![0, (grid0.coords t 1).val] ∧ win0_9.index t = ![(grid0.coords t 0).val, (grid0.coords t 1).val] :=
  (by decide +kernel : ∀ t : Fin grid0.N, _)

/-- The result array after the run. -/
theorem final (c : Dev nD) : (dats m 0 c).arrAt 9 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  obtain ⟨e0, e1, e2, e3, e4, e5, e6, e7, e8, e9⟩ := idx t
  blk_simp
  rw [after0_9]
  frame_out
  unfold k0_pay1 k0_pay3 k0_pay4 k0_pay5 k0_pay2 G gate
  rw [read_x]
  generalize rows (m ((c : Thread nD τ).loc main_arg0)) (m ((c : Thread nD τ).loc main_arg1)) = X
  pointwise
  simp only [zero_sub]
  blk_point [iblk, V, e0, e1, e2, e3, e4, e5, e6, e7, e8, e9]

theorem run_kernel : θ_run defs (onTc (τ := τ) (main (F := Ideal))) ⟨m, fun _ => 0, ρ⟩ fun r => ∀ c : Dev nD,
    r.2.mem ((c : Thread nD τ).loc main_v15) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    :=
  (θ_run defs _ _).mono (fun _ h c => ⟨(h c).1.trans (final m c), (h c).2⟩) (run_blocks m ρ)

theorem algebraic : Cert.algebraic_Kernel4Ideal_Reference4Ideal := by
  intro m ρ m' ρ' _ hagree
  refine ⟨fun c => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), run_kernel m ρ, ?_⟩
  refine (θ_run Cert.Reference4Ideal.defs _ _).mono (fun _ h c => ?_) (Cert.Reference4Ideal.Value.run (F := Ideal) m' ρ')
  obtain ⟨ha, hb, hc, hd, he, hf, hg, hh⟩ := hagree c
  exact ⟨by rw [(h c).1, ha, hb, hc, hd, he, hf, hg, hh]; exact ref_eq _ _ _ _ _ _ _ _, (h c).2⟩

end Cert.Proof.Call4

end
-- ==== Proof.Call5.lean ====
/- The output projection: the tiled product is the product of the whole arrays. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call5

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      sem_eq_zero_of_no_sems (by decide) r.2⟩)
    (Cert.Reference5Ideal.Value.run (F := Ideal) m ρ)
theorem preserves : Cert.preserves_Kernel5_Kernel5Ideal := trivial

open Cert.Kernel5Ideal Cert.Kernel5Ideal.Gen Cert.Kernel5Ideal.Value

variable (m : (ℓ : Loc nD τ sig) → Buf (Elt Ideal) ℓ) (ρ : Dev nD → PrngReg)

/-- The product of the rows `a` with the weight `w`, at a row and a column. -/
def G (a : Vec Ideal S8448x4096 .f32) (w : Vec Ideal S1x4096x4096 .f32) : Vec Ideal S8448x4096 .f32 :=
  fun i => ∑ k : Fin 4096, a (ix2 (i 0) k) * w (ix3 0 k (i 1))

/-- The reference's product is `G`. -/
theorem ref_eq (a : FVec Ideal S8448x4096 .f32) (w : FVec Ideal S1x4096x4096 .f32) :
    Host.dotGeneral (F := Ideal) (φ₁ := .f32) (φ₂ := .f32) Cert.Reference5Ideal.dot_S8448x4096_S4096x4096_S8448x4096_1_0_0_1_n_n none a
      (shapeCast _ w Cert.Reference5Ideal.Facts₀.shapeCasts_S1x4096x4096_S4096x4096) = G a w := by
  funext i
  unfold G
  pointwise

/-- The blocks each grid point reads and writes. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The result array after the run: every block is the product's block. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  unfold k0_pay1 G
  pointwise
  blk_point [iblk, V, e0, e1, e2]

theorem run_kernel : θ_run defs (onTc (τ := τ) (main (F := Ideal))) ⟨m, fun _ => 0, ρ⟩ fun r => ∀ c : Dev nD,
    r.2.mem ((c : Thread nD τ).loc main_v2) = G (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    :=
  (θ_run defs _ _).mono (fun _ h c => ⟨(h c).1.trans (final m c), (h c).2⟩) (run_blocks m ρ)

theorem algebraic : Cert.algebraic_Kernel5Ideal_Reference5Ideal := by
  intro m ρ m' ρ' _ hagree
  refine ⟨fun c => G (m ((c : Thread nD τ).loc main_arg0)) (m ((c : Thread nD τ).loc main_arg1)), run_kernel m ρ, ?_⟩
  refine (θ_run Cert.Reference5Ideal.defs _ _).mono (fun _ h c => ?_) (Cert.Reference5Ideal.Value.run (F := Ideal) m' ρ')
  obtain ⟨ha, hb⟩ := hagree c
  exact ⟨by rw [(h c).1, ha, hb]; exact ref_eq _ _, (h c).2⟩

end Cert.Proof.Call5

end
-- ==== Proof.Call6.lean ====
/- The first residual sum and its normalisation: prompt and sample rows are scaled, the mixed rows added, each row normalised. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Rows
public import Idealize.ShloMosaic.Lib.Pipeline.ValueKit
public import Idealize.ShloMosaic.Lib.Pointwise
public import Idealize.ShloMosaic.Lib.Claim
public import Idealize.ShloMosaic.Lib.StableHlo.Run
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call6

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2,
      sem_eq_zero_of_no_sems (by decide) r.2⟩)
    (Cert.Reference6Ideal.Value.run (F := Ideal) m ρ)
theorem preserves : Cert.preserves_Kernel6_Kernel6Ideal := trivial

open Cert.Kernel6Ideal Cert.Kernel6Ideal.Gen Cert.Kernel6Ideal.Value

variable (m : (ℓ : Loc nD τ sig) → Buf (Elt Ideal) ℓ) (ρ : Dev nD → PrngReg)

/-- The mean of a row. -/
def mean (z : Fin 4096 → Ideal .f32) : Ideal .f32 := Ideal.div (∑ k : Fin 4096, z k) (FloatOps.ofBits (F := Ideal) .f32 0x45800000#32)

/-- A row normalised: its mean taken off, over the root of its variance, scaled and shifted. -/
def norm (z g b : Fin 4096 → Ideal .f32) (q : Fin 4096) : Ideal .f32 :=
  (z q - mean z) * Ideal.rsqrt (mean (fun k => (z k - mean z) * (z k - mean z)) + (FloatOps.ofBits (F := Ideal) .f32 0x3727C5AC#32)) * g q + b q

/-- The residual sum of a row. -/
def resid (X mix : FVec Ideal S8448x4096 .f32) (r : Fin 8448) (k : Fin 4096) : Ideal .f32 :=
  (FloatOps.ofBits (F := Ideal) .f32 0x3F9837F0#32) * X (ix2 r k) + mix (ix2 r k)

/-- Every row's residual sum, normalised. -/
def G (X mix : FVec Ideal S8448x4096 .f32) (g b : FVec Ideal S1x4096 .f32) : FVec Ideal S8448x4096 .f32 :=
  fun i => norm (resid X mix (i 0)) (fun k => g (ix2 0 k)) (fun k => b (ix2 0 k)) (i 1)

set_option maxHeartbeats 1000000 in
/-- The reference's normalised sum is `G`. -/
theorem ref_eq (X mix : FVec Ideal S8448x4096 .f32) (g b : FVec Ideal S1x4096 .f32) :
    (addf (mulf (mulf (subf (addf (mulf (broadcastInDim Cert.Reference6Ideal.S8448x4096 ![] Cert.Reference6Ideal.Facts₀.bcast_S_S8448x4096 (constant Cert.Reference6Ideal.S_ .f32 0x3F9837F0#32)) X) mix) (broadcastInDim Cert.Reference6Ideal.S8448x4096 ![0, 1] Cert.Reference6Ideal.Facts₀.bcast_S8448x1_S8448x4096_0_1 (Host.divf (broadcastInDim Cert.Reference6Ideal.S8448x1 ![0] Cert.Reference6Ideal.Facts₀.bcast_S8448_S8448x1_0 (Host.reduceAdd (addf (mulf (broadcastInDim Cert.Reference6Ideal.S8448x4096 ![] Cert.Reference6Ideal.Facts₀.bcast_S_S8448x4096 (constant Cert.Reference6Ideal.S_ .f32 0x3F9837F0#32)) X) mix) (constant Cert.Reference6Ideal.S_ .f32 0x00000000#32) Cert.Reference6Ideal.Facts₀.reducesTo_S8448x4096_S8448_d1 Cert.Reference6Ideal.Facts₀.h_S_)) (broadcastInDim Cert.Reference6Ideal.S8448x1 ![] Cert.Reference6Ideal.Facts₀.bcast_S_S8448x1 (constant Cert.Reference6Ideal.S_ .f32 0x45800000#32))))) (broadcastInDim Cert.Reference6Ideal.S8448x4096 ![0, 1] Cert.Reference6Ideal.Facts₀.bcast_S8448x1_S8448x4096_0_1 (Host.rsqrt (addf (Host.divf (broadcastInDim Cert.Reference6Ideal.S8448x1 ![0] Cert.Reference6Ideal.Facts₀.bcast_S8448_S8448x1_0 (Host.reduceAdd (mulf (subf (addf (mulf (broadcastInDim Cert.Reference6Ideal.S8448x4096 ![] Cert.Reference6Ideal.Facts₀.bcast_S_S8448x4096 (constant Cert.Reference6Ideal.S_ .f32 0x3F9837F0#32)) X) mix) (broadcastInDim Cert.Reference6Ideal.S8448x4096 ![0, 1] Cert.Reference6Ideal.Facts₀.bcast_S8448x1_S8448x4096_0_1 (Host.divf (broadcastInDim Cert.Reference6Ideal.S8448x1 ![0] Cert.Reference6Ideal.Facts₀.bcast_S8448_S8448x1_0 (Host.reduceAdd (addf (mulf (broadcastInDim Cert.Reference6Ideal.S8448x4096 ![] Cert.Reference6Ideal.Facts₀.bcast_S_S8448x4096 (constant Cert.Reference6Ideal.S_ .f32 0x3F9837F0#32)) X) mix) (constant Cert.Reference6Ideal.S_ .f32 0x00000000#32) Cert.Reference6Ideal.Facts₀.reducesTo_S8448x4096_S8448_d1 Cert.Reference6Ideal.Facts₀.h_S_)) (broadcastInDim Cert.Reference6Ideal.S8448x1 ![] Cert.Reference6Ideal.Facts₀.bcast_S_S8448x1 (constant Cert.Reference6Ideal.S_ .f32 0x45800000#32))))) (subf (addf (mulf (broadcastInDim Cert.Reference6Ideal.S8448x4096 ![] Cert.Reference6Ideal.Facts₀.bcast_S_S8448x4096 (constant Cert.Reference6Ideal.S_ .f32 0x3F9837F0#32)) X) mix) (broadcastInDim Cert.Reference6Ideal.S8448x4096 ![0, 1] Cert.Reference6Ideal.Facts₀.bcast_S8448x1_S8448x4096_0_1 (Host.divf (broadcastInDim Cert.Reference6Ideal.S8448x1 ![0] Cert.Reference6Ideal.Facts₀.bcast_S8448_S8448x1_0 (Host.reduceAdd (addf (mulf (broadcastInDim Cert.Reference6Ideal.S8448x4096 ![] Cert.Reference6Ideal.Facts₀.bcast_S_S8448x4096 (constant Cert.Reference6Ideal.S_ .f32 0x3F9837F0#32)) X) mix) (constant Cert.Reference6Ideal.S_ .f32 0x00000000#32) Cert.Reference6Ideal.Facts₀.reducesTo_S8448x4096_S8448_d1 Cert.Reference6Ideal.Facts₀.h_S_)) (broadcastInDim Cert.Reference6Ideal.S8448x1 ![] Cert.Reference6Ideal.Facts₀.bcast_S_S8448x1 (constant Cert.Reference6Ideal.S_ .f32 0x45800000#32)))))) (constant Cert.Reference6Ideal.S_ .f32 0x00000000#32) Cert.Reference6Ideal.Facts₀.reducesTo_S8448x4096_S8448_d1 Cert.Reference6Ideal.Facts₀.h_S_)) (broadcastInDim Cert.Reference6Ideal.S8448x1 ![] Cert.Reference6Ideal.Facts₀.bcast_S_S8448x1 (constant Cert.Reference6Ideal.S_ .f32 0x45800000#32))) (broadcastInDim Cert.Reference6Ideal.S8448x1 ![] Cert.Reference6Ideal.Facts₀.bcast_S_S8448x1 (constant Cert.Reference6Ideal.S_ .f32 0x3727C5AC#32)))))) (broadcastInDim Cert.Reference6Ideal.S8448x4096 ![0, 1] Cert.Reference6Ideal.Facts₀.bcast_S1x4096_S8448x4096_0_1 (broadcastInDim Cert.Reference6Ideal.S1x4096 ![1] Cert.Reference6Ideal.Facts₀.bcast_S4096_S1x4096_1 (shapeCast _ g Cert.Reference6Ideal.Facts₀.shapeCasts_S1x4096_S4096)))) (broadcastInDim Cert.Reference6Ideal.S8448x4096 ![0, 1] Cert.Reference6Ideal.Facts₀.bcast_S1x4096_S8448x4096_0_1 (broadcastInDim Cert.Reference6Ideal.S1x4096 ![1] Cert.Reference6Ideal.Facts₀.bcast_S4096_S1x4096_1 (shapeCast _ b Cert.Reference6Ideal.Facts₀.shapeCasts_S1x4096_S4096))) : FVec Ideal S8448x4096 .f32)
      = G X mix g b := by
  funext i
  unfold G norm mean resid
  pointwise

theorem ge32 : ∀ n : Fin 33, Scalar.cmpi .sge (BitVec.ofNat 32 n.val) 32#32 = if 32 ≤ n.val then 1#1 else 0#1 := by
  decide

theorem pick_lo {α : Type} (n : Fin 33) (h : n.val < 32) (x y : α) : Scalar.select (Scalar.cmpi .sge (BitVec.ofNat 32 n.val) 32#32) x y = y := by
  rw [ge32, if_neg (by omega)]
  rfl

theorem pick_hi {α : Type} (n : Fin 33) (h : ¬ n.val < 32) (x y : α) : Scalar.select (Scalar.cmpi .sge (BitVec.ofNat 32 n.val) 32#32) x y = x := by
  rw [ge32, if_pos (by omega)]
  rfl

set_option maxHeartbeats 1000000 in
/-- What a point computes from its blocks, when the residual rows among them are `R`. -/
theorem pay_eq (t : grid0.Coords) (a s mix : FVec Ideal S256x4096 .f32) (g b : FVec Ideal S1x4096 .f32) (R : FVec Ideal S256x4096 .f32)
    (hR : ∀ (x y : FVec Ideal S256x4096 .f32), x = s → y = a → Scalar.select (Scalar.cmpi .sge (BitVec.ofNat 32 (t 0).val) 32#32) x y = R) :
    k0_pay2 t a s mix g b = fun j => norm (fun k => (FloatOps.ofBits (F := Ideal) .f32 0x3F9837F0#32) * R (ix2 (j 0) k) + mix (ix2 (j 0) k)) (fun k => g (ix2 0 k)) (fun k => b (ix2 0 k)) (j 1) := by
  unfold k0_pay2
  dsimp only
  rw [hR _ _ (by funext j; pointwise) (by funext j; pointwise)]
  funext j
  unfold norm mean
  pointwise

/-! The blocks. -/

theorem idx : ∀ t : Fin cfg0.N, win0_0.index t = ![(grid0.coords t 0).val, 0] ∧ win0_5.index t = ![(grid0.coords t 0).val, 0]
    ∧ win0_6.index t = ![(grid0.coords t 0).val, 0] :=
  (by decide +kernel : ∀ t : Fin grid0.N, _)

theorem idx_v : ∀ t : Fin cfg0.N, win0_3.index t = ![0, 0] ∧ win0_4.index t = ![0, 0] :=
  (by decide +kernel : ∀ t : Fin grid0.N, _)

theorem idx_p : ∀ t : Fin cfg0.N, (grid0.coords t 0).val < 32 → win0_1.index t = ![(grid0.coords t 0).val, 0] :=
  (by decide +kernel : ∀ t : Fin grid0.N, _)

theorem idx_s : ∀ t : Fin cfg0.N, win0_2.index t = ![0, 0] :=
  (by decide +kernel : ∀ t : Fin grid0.N, _)

theorem entry_p (c : Dev nD) : V m c main_v0 = fun j : S8192x4096.Idx => (m ((c : Thread nD τ).loc main_arg0)) (ix3 0 (j 0) (j 1)) := by
  entry_read
  funext j
  pointwise

theorem entry_s (c : Dev nD) : V m c main_v1 = fun j : S256x4096.Idx => (m ((c : Thread nD τ).loc main_arg1)) (ix3 ⟨(j 0).val / 8, by
    have h : (j 0).val < 256 := (j 0).isLt
    omega⟩ ⟨(j 0).val % 8, by omega⟩ (j 1)) := by
  entry_read
  funext j
  pointwise

theorem entry_g (c : Dev nD) : V m c main_v3 = fun j : S1x4096.Idx => (m ((c : Thread nD τ).loc main_arg3)) (ix2 0 (j 1)) := by
  entry_read
  funext j
  pointwise

theorem entry_b (c : Dev nD) : V m c main_v5 = fun j : S1x4096.Idx => (m ((c : Thread nD τ).loc main_arg4)) (ix2 0 (j 1)) := by
  entry_read
  funext j
  pointwise

theorem read_g (c : Dev nD) (t : Fin cfg0.N) : iblk m c 3 t = fun j : S1x4096.Idx => (m ((c : Thread nD τ).loc main_arg3)) (ix2 0 (j 1)) := by
  obtain ⟨e, -⟩ := idx_v t
  funext j
  refine (congrFun (entry_g m c) _).trans ?_
  blk_ext [e]

theorem read_b (c : Dev nD) (t : Fin cfg0.N) : iblk m c 4 t = fun j : S1x4096.Idx => (m ((c : Thread nD τ).loc main_arg4)) (ix2 0 (j 1)) := by
  obtain ⟨-, e⟩ := idx_v t
  funext j
  refine (congrFun (entry_b m c) _).trans ?_
  blk_ext [e]

/-- The residual rows of a point. -/
def R (X : FVec Ideal S8448x4096 .f32) (t : grid0.Coords) : FVec Ideal S256x4096 .f32 := fun j =>
  X (ix2 ⟨(t 0).val * 256 + (j 0).val, by
    have h : (t 0).val < 33 := (t 0).isLt
    have h' : (j 0).val < 256 := (j 0).isLt
    omega⟩ (j 1))

/-- The samples' rows are one block. -/
theorem emb_s (t : Fin cfg0.N) (j : S256x4096.Idx) : ((cfg0.win 2).blk t).view.emb j = j := by
  have e := idx_s t
  blk_ext [e]

/-- A point before the last has the prompt's rows, the last has the samples'. -/
theorem picked (c : Dev nD) (t : Fin cfg0.N) (x y : FVec Ideal S256x4096 .f32) (hx : x = iblk m c 2 t) (hy : y = iblk m c 1 t) :
    Scalar.select (Scalar.cmpi .sge (BitVec.ofNat 32 (grid0.coords t 0).val) 32#32) x y = R (rows (m ((c : Thread nD τ).loc main_arg0)) (m ((c : Thread nD τ).loc main_arg1))) (grid0.coords t) := by
  have hn : (grid0.coords t 0).val < 33 := (grid0.coords t 0).isLt
  by_cases h : (grid0.coords t 0).val < 32
  · rw [pick_lo (grid0.coords t 0) h, hy]
    have e := idx_p t h
    funext j
    have hj : (j 0).val < 256 := (j 0).isLt
    refine (congrFun (entry_p m c) _).trans ?_
    unfold R rows
    refine Eq.trans ?_ (dif_pos (show (grid0.coords t 0).val * 256 + (j 0).val < 8192 by omega)).symm
    blk_ext [e]
  · rw [pick_hi (grid0.coords t 0) h, hx]
    have h32 : (grid0.coords t 0).val = 32 := by omega
    funext j
    have hj : (j 0).val < 256 := (j 0).isLt
    refine (congrFun (entry_s m c) _).trans ?_
    unfold R rows
    refine Eq.trans ?_ (dif_neg (show ¬(grid0.coords t 0).val * 256 + (j 0).val < 8192 by omega)).symm
    rw [emb_s]
    exact congrArg₂ (fun p q => (m ((c : Thread nD τ).loc main_arg1)) (ix3 p q (j 1)))
      (Fin.ext (by show (j 0).val / 8 = ((grid0.coords t 0).val * 256 + (j 0).val - 8192) / 8; rw [h32]; omega))
      (Fin.ext (by show (j 0).val % 8 = ((grid0.coords t 0).val * 256 + (j 0).val - 8192) % 8; rw [h32]; omega))

theorem read_mix (c : Dev nD) (t : Fin cfg0.N) : iblk m c 0 t = R (m ((c : Thread nD τ).loc main_arg2)) (grid0.coords t) := by
  obtain ⟨e, -, -⟩ := idx t
  funext j
  refine (congrFun (V_main_arg2 m c) _).trans ?_
  unfold R
  blk_ext [e]

/-- The result array of window 5 after the run. -/
theorem final5 (c : Dev nD) : (dats m 0 c).arrAt 5 cfg0.N
    = G (rows (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨e0, e5, e6⟩ := idx t
  blk_simp
  rw [after0_5]
  unfold outsAt0
  frame_out
  rw [pay_eq _ _ _ _ _ _ _ (picked m c t), read_mix, read_g, read_b]
  unfold G resid R
  blk_point [e5, e6]

/-- The result array of window 6 after the run. -/
theorem final6 (c : Dev nD) : (dats m 0 c).arrAt 6 cfg0.N
    = G (rows (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e5, e6⟩ := idx t
  blk_simp
  rw [after0_6]
  unfold outsAt0
  frame_out
  unfold k0_pay1
  show k0_pay2 (F := Ideal) (grid0.coords t) _ _ _ _ _ y = _
  rw [pay_eq _ _ _ _ _ _ _ (picked m c t), read_mix, read_g, read_b]
  unfold G resid R
  blk_point [e5, e6]

theorem run_kernel : θ_run defs (onTc (τ := τ) (main (F := Ideal))) ⟨m, fun _ => 0, ρ⟩ fun r => ∀ c : Dev nD,
    r.2.mem ((c : Thread nD τ).loc main_v6_0) = G (rows (m ((c : Thread nD τ).loc main_arg0)) (m ((c : Thread nD τ).loc main_arg1))) (m ((c : Thread nD τ).loc main_arg2)) (m ((c : Thread nD τ).loc main_arg3)) (m ((c : Thread nD τ).loc main_arg4))
    ∧ r.2.mem ((c : Thread nD τ).loc main_v6_1) = G (rows (m ((c : Thread nD τ).loc main_arg0)) (m ((c : Thread nD τ).loc main_arg1))) (m ((c : Thread nD τ).loc main_arg2)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (run_blocks m ρ)

theorem algebraic : Cert.algebraic_Kernel6Ideal_Reference6Ideal := by
  intro m ρ m' ρ' _ hagree
  refine ⟨fun c => G (rows (m ((c : Thread nD τ).loc main_arg0)) (m ((c : Thread nD τ).loc main_arg1))) (m ((c : Thread nD τ).loc main_arg2)) (m ((c : Thread nD τ).loc main_arg3)) (m ((c : Thread nD τ).loc main_arg4)), fun c => G (rows (m ((c : Thread nD τ).loc main_arg0)) (m ((c : Thread nD τ).loc main_arg1))) (m ((c : Thread nD τ).loc main_arg2)) (m ((c : Thread nD τ).loc main_arg3)) (m ((c : Thread nD τ).loc main_arg4)), run_kernel m ρ, ?_⟩
  refine (θ_run Cert.Reference6Ideal.defs _ _).mono (fun _ h c => ?_) (Cert.Reference6Ideal.Value.run (F := Ideal) m' ρ')
  obtain ⟨ha, hb, hc, hd, he⟩ := hagree c
  have key : Cert.Reference6Ideal.Value.res_main_v31 m' c = G (rows (m ((c : Thread nD τ).loc main_arg0)) (m ((c : Thread nD τ).loc main_arg1))) (m ((c : Thread nD τ).loc main_arg2)) (m ((c : Thread nD τ).loc main_arg3)) (m ((c : Thread nD τ).loc main_arg4)) := by
    unfold Cert.Reference6Ideal.Value.res_main_v31
    rw [ha, hb, hc, hd, he, rows_eq]
    exact ref_eq _ _ _ _
  have key' : Cert.Reference6Ideal.Value.res_main_v32 m' c = G (rows (m ((c : Thread nD τ).loc main_arg0)) (m ((c : Thread nD τ).loc main_arg1))) (m ((c : Thread nD τ).loc main_arg2)) (m ((c : Thread nD τ).loc main_arg3)) (m ((c : Thread nD τ).loc main_arg4)) := by
    unfold Cert.Reference6Ideal.Value.res_main_v32
    rw [ha, hb, hc, hd, he, rows_eq]
    exact ref_eq _ _ _ _
  exact ⟨(h c).1.trans key, (h c).2.1.trans key', (h c).2.2⟩

end Cert.Proof.Call6

end
-- ==== Proof.Call7.lean ====
/- The gated up projection: the tiled kernel gives the reference's products under the gate. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call7

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      sem_eq_zero_of_no_sems (by decide) r.2⟩)
    (Cert.Reference7Ideal.Value.run (F := Ideal) m ρ)
theorem preserves : Cert.preserves_Kernel7_Kernel7Ideal := trivial

open Cert.Kernel7Ideal Cert.Kernel7Ideal.Gen Cert.Kernel7Ideal.Value

variable (m : (ℓ : Loc nD τ sig) → Buf (Elt Ideal) ℓ) (ρ : Dev nD → PrngReg)

/-- The gated product at a row and a column: `g · 1/(1 + exp (−g)) · u`. -/
def G (a : Vec Ideal S8448x4096 .f32) (wg : Vec Ideal S1x4096x11008 .f32) (wu : Vec Ideal S1x4096x11008 .f32) : Vec Ideal S8448x11008 .bf16 :=
  fun i => (∑ k : Fin 4096, a (ix2 (i 0) k) * wg (ix3 0 k (i 1)))
      * Ideal.div 1 (1 + Ideal.exp (-(∑ k : Fin 4096, a (ix2 (i 0) k) * wg (ix3 0 k (i 1)))))
      * (∑ k : Fin 4096, a (ix2 (i 0) k) * wu (ix3 0 k (i 1)))

/-- The reference's gated product is `G`. -/
theorem ref_eq (a : FVec Ideal S8448x4096 .f32) (wg : FVec Ideal S1x4096x11008 .f32) (wu : FVec Ideal S1x4096x11008 .f32) :
    truncf (F := Ideal) .bf16 (mulf (mulf (Host.dotGeneral (φ₁ := .f32) (φ₂ := .f32) Cert.Reference7Ideal.dot_S8448x4096_S4096x11008_S8448x11008_1_0_0_1_n_n none a (shapeCast _ wg Cert.Reference7Ideal.Facts₀.shapeCasts_S1x4096x11008_S4096x11008)) (Host.divf (broadcastInDim Cert.Reference7Ideal.S8448x11008 ![] Cert.Reference7Ideal.Facts₀.bcast_S_S8448x11008 (constant Cert.Reference7Ideal.S_ .f32 0x3F800000#32)) (addf (broadcastInDim Cert.Reference7Ideal.S8448x11008 ![] Cert.Reference7Ideal.Facts₀.bcast_S_S8448x11008 (constant Cert.Reference7Ideal.S_ .f32 0x3F800000#32)) (Host.exp (Host.negf (Host.dotGeneral (φ₁ := .f32) (φ₂ := .f32) Cert.Reference7Ideal.dot_S8448x4096_S4096x11008_S8448x11008_1_0_0_1_n_n none a (shapeCast _ wg Cert.Reference7Ideal.Facts₀.shapeCasts_S1x4096x11008_S4096x11008))))))) (Host.dotGeneral (φ₁ := .f32) (φ₂ := .f32) Cert.Reference7Ideal.dot_S8448x4096_S4096x11008_S8448x11008_1_0_0_1_n_n none a (shapeCast _ wu Cert.Reference7Ideal.Facts₀.shapeCasts_S1x4096x11008_S4096x11008))) Cert.Reference7Ideal.Facts₀.bitsLt_bf16_f32
      = G a wg wu := by
  funext i
  unfold G
  pointwise

/-- The blocks each grid point reads and writes. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  frame_out
  unfold k0_pay1 G
  pointwise
  simp only [zero_sub]
  blk_point [iblk, V, e0, e1, e2, e3]

theorem run_kernel : θ_run defs (onTc (τ := τ) (main (F := Ideal))) ⟨m, fun _ => 0, ρ⟩ fun r => ∀ c : Dev nD,
    r.2.mem ((c : Thread nD τ).loc main_v3) = G (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    :=
  (θ_run defs _ _).mono (fun _ h c => ⟨(h c).1.trans (final m c), (h c).2⟩) (run_blocks m ρ)

theorem algebraic : Cert.algebraic_Kernel7Ideal_Reference7Ideal := by
  intro m ρ m' ρ' _ hagree
  refine ⟨fun c => G (m ((c : Thread nD τ).loc main_arg0)) (m ((c : Thread nD τ).loc main_arg1)) (m ((c : Thread nD τ).loc main_arg2)), run_kernel m ρ, ?_⟩
  refine (θ_run Cert.Reference7Ideal.defs _ _).mono (fun _ h c => ?_) (Cert.Reference7Ideal.Value.run (F := Ideal) m' ρ')
  obtain ⟨ha, hb, hc⟩ := hagree c
  exact ⟨by rw [(h c).1, ha, hb, hc]; exact ref_eq _ _ _, (h c).2⟩

end Cert.Proof.Call7

end
-- ==== Proof.Call8.lean ====
/- The down projection: the tiled product is the product of the whole arrays. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call8

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      sem_eq_zero_of_no_sems (by decide) r.2⟩)
    (Cert.Reference8Ideal.Value.run (F := Ideal) m ρ)
theorem preserves : Cert.preserves_Kernel8_Kernel8Ideal := trivial

open Cert.Kernel8Ideal Cert.Kernel8Ideal.Gen Cert.Kernel8Ideal.Value

variable (m : (ℓ : Loc nD τ sig) → Buf (Elt Ideal) ℓ) (ρ : Dev nD → PrngReg)

/-- The product of the rows `a` with the weight `w`, at a row and a column. -/
def G (a : Vec Ideal S8448x11008 .f32) (w : Vec Ideal S1x11008x4096 .f32) : Vec Ideal S8448x4096 .f32 :=
  fun i => ∑ k : Fin 11008, a (ix2 (i 0) k) * w (ix3 0 k (i 1))

/-- The reference's product is `G`. -/
theorem ref_eq (a : FVec Ideal S8448x11008 .f32) (w : FVec Ideal S1x11008x4096 .f32) :
    Host.dotGeneral (F := Ideal) (φ₁ := .f32) (φ₂ := .f32) Cert.Reference8Ideal.dot_S8448x11008_S11008x4096_S8448x4096_1_0_0_1_n_n none a
      (shapeCast _ w Cert.Reference8Ideal.Facts₀.shapeCasts_S1x11008x4096_S11008x4096) = G a w := by
  funext i
  unfold G
  pointwise

/-- The blocks each grid point reads and writes. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The result array after the run: every block is the product's block. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  unfold k0_pay1 G
  pointwise
  blk_point [iblk, V, e0, e1, e2]

theorem run_kernel : θ_run defs (onTc (τ := τ) (main (F := Ideal))) ⟨m, fun _ => 0, ρ⟩ fun r => ∀ c : Dev nD,
    r.2.mem ((c : Thread nD τ).loc main_v3) = G (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    :=
  (θ_run defs _ _).mono (fun _ h c => ⟨(h c).1.trans (final m c), (h c).2⟩) (run_blocks m ρ)

theorem algebraic : Cert.algebraic_Kernel8Ideal_Reference8Ideal := by
  intro m ρ m' ρ' _ hagree
  refine ⟨fun c => G (m ((c : Thread nD τ).loc main_arg0)) (m ((c : Thread nD τ).loc main_arg1)), run_kernel m ρ, ?_⟩
  refine (θ_run Cert.Reference8Ideal.defs _ _).mono (fun _ h c => ?_) (Cert.Reference8Ideal.Value.run (F := Ideal) m' ρ')
  obtain ⟨ha, hb⟩ := hagree c
  exact ⟨by rw [(h c).1, ha, hb]; exact ref_eq _ _, (h c).2⟩

end Cert.Proof.Call8

end
-- ==== Proof.Run9.lean ====
/- The run of the second residual norm. Its last point stores nothing of the prompt's rows, and still writes their last
   block back: the buffer then holds what the point before left. Every array's contents at the end, for any arithmetic. -/
module

public import proofs.«01_k».proof.Proof.Gen.Kernel9Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Run9

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point computes of its blocks: the residual rows, the rows added, the scale and the shift. -/
def pay (v0 v3 : Vec F S256x4096 .f32) (v21 v25 : Vec F S1x4096 .f32) : FVec F S256x4096 .f32 :=
  have cst : F .f32 := Scalar.ofBits .f32 0x3F9837F0#32
  have v1 : FVec F S256x4096 .f32 := broadcast S256x4096 cst
  have v2 : FVec F S256x4096 .f32 := mulf v1 v0
  have v4 : FVec F S256x4096 .f32 := addf v2 v3
  have cst_3 : FVec F S256 .f32 := constant S256 .f32 0x00000000#32
  have v5 : FVec F S256 .f32 := multiReduction .add [1] S256 v4 0x00000000#32 reduces_S256x4096_S256 (.inl rfl) rfl
  have v6 : FVec F S256x1 .f32 := shapeCast S256x1 v5 shapeCasts_S256_S256x1
  have cst_4 : F .f32 := Scalar.ofBits .f32 0x45800000#32
  have v7 : FVec F S256x1 .f32 := broadcast S256x1 cst_4
  have v8 : FVec F S256x1 .f32 := divf v6 v7
  have v9 : FVec F S256x4096 .f32 := broadcastTo S256x4096 v8 broadcasts_S256x1_S256x4096
  have v10 : FVec F S256x4096 .f32 := subf v4 v9
  have v11 : FVec F S256x4096 .f32 := mulf v10 v10
  have cst_5 : FVec F S256 .f32 := constant S256 .f32 0x00000000#32
  have v12 : FVec F S256 .f32 := multiReduction .add [1] S256 v11 0x00000000#32 reduces_S256x4096_S256 (.inl rfl) rfl
  have v13 : FVec F S256x1 .f32 := shapeCast S256x1 v12 shapeCasts_S256_S256x1
  have cst_6 : F .f32 := Scalar.ofBits .f32 0x45800000#32
  have v14 : FVec F S256x1 .f32 := broadcast S256x1 cst_6
  have v15 : FVec F S256x1 .f32 := divf v13 v14
  have cst_7 : F .f32 := Scalar.ofBits .f32 0x3727C5AC#32
  have v16 : FVec F S256x1 .f32 := broadcast S256x1 cst_7
  have v17 : FVec F S256x1 .f32 := addf v15 v16
  have v18 : FVec F S256x1 .f32 := rsqrt v17
  have v19 : FVec F S256x4096 .f32 := broadcastTo S256x4096 v18 broadcasts_S256x1_S256x4096
  have v20 : FVec F S256x4096 .f32 := mulf v10 v19
  have v22 : FVec F S1x4096 .f32 := shapeCast S1x4096 v21 shapeCasts_S1x4096_S1x4096
  have v23 : FVec F S256x4096 .f32 := broadcastTo S256x4096 v22 broadcasts_S1x4096_S256x4096
  have v24 : FVec F S256x4096 .f32 := mulf v20 v23
  have v26 : FVec F S1x4096 .f32 := shapeCast S1x4096 v25 shapeCasts_S1x4096_S1x4096
  have v27 : FVec F S256x4096 .f32 := broadcastTo S256x4096 v26 broadcasts_S1x4096_S256x4096
  have v28 : FVec F S256x4096 .f32 := addf v24 v27
  v28

abbrev rb : Rect S256x4096 := Rect.unit (s := S256x4096) ![0, 0] S256x4096.size inb_S256x4096_S256x4096_0_0
abbrev rv : Rect S1x4096 := Rect.unit (s := S1x4096) ![0, 0] S1x4096.size inb_S1x4096_S1x4096_0_0

/-- The body's first part, as its loads, its store and what they compute. -/
def part (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) :
    Prog (TpuEff nD τ sig (Elt F) Λ₀ .tc) (Σ' (_ : FVec F S256x4096 .f32) (_ : BitVec 32), BitVec 32) := do
  let v0 : Vec F S256x4096 .f32 ← Prog.lift (.load arg2 rb.toLoadRect (View.loadsAt_vmem h_S256x4096))
  let v3 : Vec F S256x4096 .f32 ← Prog.lift (.load arg1 rb.toLoadRect (View.loadsAt_vmem h_S256x4096))
  let v21 : Vec F S1x4096 .f32 ← Prog.lift (.load arg3 rv.toLoadRect (View.loadsAt_vmem h_S1x4096))
  let v25 : Vec F S1x4096 .f32 ← Prog.lift (.load arg4 rv.toLoadRect (View.loadsAt_vmem h_S1x4096))
  if _h : k0_cond1 i = 1#1 then do
    let _v39 : Vec F S256x4096 .f32 ← Prog.lift (.load arg5 rb.toLoadRect (View.loadsAt_vmem h_S256x4096))
    Prog.lift (.store arg5 rb (pay v0 v3 v21 v25) Finset.univ (View.stores_vmem_bits_univ h_S256x4096 rfl) (.inl rfl))
    pure ⟨⟩
  else do
    pure ⟨⟩
  pure ⟨pay v0 v3 v21 v25, Scalar.extui (Scalar.andi (Scalar.cmpi .sge (BitVec.ofNat 32 (i 0).val) 32#32) (Scalar.cmpi .slt (BitVec.ofNat 32 (i 0).val) 33#32)), 0#32⟩

set_option maxRecDepth 65536 in
theorem part_eq : k0_part1 (F := F) = part (F := F) := rfl

/-- What a point leaves in the buffer it stores into. -/
def out (x0 x1 : Vec F S256x4096 .f32) (x2 x3 : Vec F S1x4096 .f32) : Vec F S256x4096 .f32 :=
  View.canon [⟨rb, pay (View.ld x1 rb) (View.ld x0 rb) (View.ld x2 rv) (View.ld x3 rv)⟩]

theorem cover (p0 : Vec F S256x4096 .f32) (y : S256x4096.Idx) :
    ∃ pc ∈ ([⟨rb, p0⟩] : List (View.Piece (Elt F) S256x4096 .f32)), y ∈ pc.1.set :=
  View.cover_of_tiled [⟨rb, p0⟩] S256x4096.size (by rfl) y

set_option maxHeartbeats 1000000 in
/-- The body at a point before the last, on whole buffers: the prompt's buffer gets the normalised rows. -/
theorem sound_lo (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : k0_cond1 i = 1#1) (hc1 : ¬k0_cond2 i = 1#1)
    (x0 x1 : Vec F S256x4096 .f32) (x2 x3 : Vec F S1x4096 .f32) (x5 : Vec F S256x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 x2 x3) ∗ owns (c : Thread nD τ) arg6 fullShare x5) -∗ K ⟨⟩))
      ⊢ wp frame (wpE (defs₀ (F := F)) Variants.none c none) E (cc0_add_norm i arg1 harg1 arg2 harg2 arg3 harg3 arg4 harg4 arg5 harg5 arg6 harg6) K := by
  unfold cc0_add_norm
  simp only [part_eq]
  unfold part
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  iexists f5; isplitr; · ipureintro; rfl
  iexact H5

set_option maxHeartbeats 1000000 in
/-- The body at the last point: the samples' buffer gets the normalised rows, the prompt's keeps what it held. -/
theorem sound_hi (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬k0_cond1 i = 1#1) (hc1 : k0_cond2 i = 1#1)
    (x0 x1 : Vec F S256x4096 .f32) (x2 x3 : Vec F S1x4096 .f32) (x4 : Vec F S256x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3)) -∗ K ⟨⟩))
      ⊢ wp frame (wpE (defs₀ (F := F)) Variants.none c none) E (cc0_add_norm i arg1 harg1 arg2 harg2 arg3 harg3 arg4 harg4 arg5 harg5 arg6 harg6) K := by
  unfold cc0_add_norm
  simp only [part_eq]
  unfold part
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- A point's normalised rows. -/
def rowsAt (c : Dev nD) (t : Fin cfg0.N) : Vec F S256x4096 .f32 := out (iblk m c 0 t) (iblk m c 1 t) (iblk m c 2 t) (iblk m c 3 t)

/-- The last point, up to a given one, that stored rows of the prompt. -/
def lastp (t : Fin cfg0.N) : Fin cfg0.N := if t.val < 32 then t else ⟨t.val - 1, by omega⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c (lastp t)
    | ⟨5, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowsAt m c (lastp t) := by dsimp only [dats]
theorem after0_5 (c : Dev nD) (t : Fin cfg0.N) : (dats m 0 c).after 5 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! Where the outputs are stored into and written back. -/

theorem lo : ∀ t : Fin cfg0.N, t.val < 32 → k0_cond1 (grid0.coords t) = 1#1 ∧ ¬k0_cond2 (grid0.coords t) = 1#1
    ∧ cfg0.idle 4 (cfg0.grid.coords t) = false ∧ cfg0.idle 5 (cfg0.grid.coords t) = true ∧ (cfg0.win 5).flush t = false :=
  (by decide +kernel : ∀ t : Fin grid0.N, t.val < 32 → k0_cond1 (grid0.coords t) = 1#1 ∧ ¬k0_cond2 (grid0.coords t) = 1#1
    ∧ idle0 4 (grid0.coords t) = false ∧ idle0 5 (grid0.coords t) = true ∧ win0_5.flush t = false)

theorem hi : ∀ t : Fin cfg0.N, ¬t.val < 32 → ¬k0_cond1 (grid0.coords t) = 1#1 ∧ k0_cond2 (grid0.coords t) = 1#1
    ∧ cfg0.idle 4 (cfg0.grid.coords t) = true ∧ cfg0.idle 5 (cfg0.grid.coords t) = false ∧ (cfg0.win 4).flush t = true :=
  (by decide +kernel : ∀ t : Fin grid0.N, ¬t.val < 32 → ¬k0_cond1 (grid0.coords t) = 1#1 ∧ k0_cond2 (grid0.coords t) = 1#1
    ∧ idle0 4 (grid0.coords t) = true ∧ idle0 5 (grid0.coords t) = false ∧ win0_4.flush t = true)

theorem held : ∀ t : Fin cfg0.N, ¬t.val < 32 → t.val ≠ 0 ∧ (cfg0.win 4).fetch t = false
    ∧ (cfg0.win 4).flush ⟨t.val - 1, Nat.lt_of_le_of_lt (Nat.sub_le _ _) t.isLt⟩ = false
    ∧ cfg0.idle 4 (cfg0.grid.coords ⟨t.val - 1, Nat.lt_of_le_of_lt (Nat.sub_le _ _) t.isLt⟩) = false ∧ t.val - 1 < 32 :=
  (by decide +kernel : ∀ t : Fin grid0.N, ¬t.val < 32 → t.val ≠ 0 ∧ win0_4.fetch t = false
    ∧ win0_4.flush ⟨t.val - 1, Nat.lt_of_le_of_lt (Nat.sub_le _ _) t.isLt⟩ = false
    ∧ idle0 4 (grid0.coords ⟨t.val - 1, Nat.lt_of_le_of_lt (Nat.sub_le _ _) t.isLt⟩) = false ∧ t.val - 1 < 32)

/-- At the last point the prompt's buffer still holds what the point before left. -/
theorem before_hi (c : Dev nD) (t : Fin cfg0.N) (h : ¬t.val < 32) (d) : (dats m 0 c).before 4 t d = rowsAt m c (lastp t) := by
  obtain ⟨h0, hf, hw, hi, h31⟩ := held t h
  rw [Dat.before_of_pos _ 4 t h0 hf d, hw, if_neg Bool.false_ne_true]
  unfold Dat.left
  rw [hi]
  show (dats m 0 c).after 4 _ = _
  rw [after0_4]
  unfold lastp
  rw [if_pos h31, if_neg h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_lo (c : Dev nD) (t : Fin cfg0.N) (h : t.val < 32) : (dats m 0 c).leavesExact 4 t = owns (c : Thread nD τ) (st0_4 t) fullShare (rowsAt m c t)
    ∧ (dats m 0 c).leavesExact 5 t = iprop(∃ d, owns (c : Thread nD τ) (st0_5 t) fullShare ((dats m 0 c).before 5 t d)) := by
  obtain ⟨-, -, h4, h5, hf⟩ := lo t h
  refine ⟨?_, Dat.leavesExact_idle _ 5 t h5 hf⟩
  unfold Dat.leavesExact
  rw [h4, after0_4]
  unfold lastp
  rw [if_pos h]

theorem leaves_hi (c : Dev nD) (t : Fin cfg0.N) (h : ¬t.val < 32) : (dats m 0 c).leavesExact 4 t = owns (c : Thread nD τ) (st0_4 t) fullShare (rowsAt m c (lastp t))
    ∧ (dats m 0 c).leavesExact 5 t = owns (c : Thread nD τ) (st0_5 t) fullShare (rowsAt m c t) := by
  obtain ⟨-, -, h4, h5, hf⟩ := hi t h
  constructor
  · unfold Dat.leavesExact
    rw [h4, hf, after0_4]
  · unfold Dat.leavesExact
    rw [h5, after0_5]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare (iblk m c 0 t) from after0_0 m c t ▸ rfl,
    show (dats m 0 c).leavesExact 1 t = owns (c : Thread nD τ) (st0_1 t) fullShare (iblk m c 1 t) from after0_1 m c t ▸ rfl,
    show (dats m 0 c).leavesExact 2 t = owns (c : Thread nD τ) (st0_2 t) fullShare (iblk m c 2 t) from after0_2 m c t ▸ rfl,
    show (dats m 0 c).leavesExact 3 t = owns (c : Thread nD τ) (st0_3 t) fullShare (iblk m c 3 t) from after0_3 m c t ▸ rfl]
  by_cases h : t.val < 32
  · obtain ⟨hc0, hc1, -⟩ := lo t h
    obtain ⟨e4, e5⟩ := leaves_lo m c t h
    rw [e4, e5]
    unfold rowsAt
    iintro ⟨HΦ, Ho, ⟨%d0, H0⟩, ⟨%d1, H1⟩, ⟨%d2, H2⟩, ⟨%d3, H3⟩, ⟨%d4, H4⟩, ⟨%d5, H5⟩⟩
    iapply (sound_lo c Set.univ (grid0.coords t) _ _ _ _ _ _ _ _ _ _ _ _ hc0 hc1 (iblk m c 0 t) (iblk m c 1 t) (iblk m c 2 t) (iblk m c 3 t) ((dats m 0 c).before 5 t d5) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5; iexact H5
  · obtain ⟨hc0, hc1, -⟩ := hi t h
    obtain ⟨e4, e5⟩ := leaves_hi m c t h
    rw [e4, e5]
    simp only [before_hi m c t h]
    iintro ⟨HΦ, Ho, ⟨%d0, H0⟩, ⟨%d1, H1⟩, ⟨%d2, H2⟩, ⟨%d3, H3⟩, ⟨%d4, H4⟩, ⟨%d5, H5⟩⟩
    iapply (sound_hi c Set.univ (grid0.coords t) _ _ _ _ _ _ _ _ _ _ _ _ hc0 hc1 (iblk m c 0 t) (iblk m c 1 t) (iblk m c 2 t) (iblk m c 3 t) (rowsAt m c (lastp t)) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, each array of the call at what the points wrote back, every other buffer as it was, the counters at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_all m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_arrays m ρ)

/-- The arguments end unchanged, the counters at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_kept m ρ) ((θ_run defs _ _).mono (fun _ h => h.2) (run_all m ρ))

/-- The two results are what the points wrote back, the arguments unchanged. -/
theorem run_blocks : θ_run defs (onTc (τ := τ) (main (F := F))) ⟨m, fun _ => 0, ρ⟩ fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 4, (h.1 c).1 5, h.2 c⟩)
    (θ_run_and (run_arrays m ρ) (args_kept m ρ))

end Cert.Proof.Run9

end
-- ==== Proof.Call9.lean ====
/- The second residual sum and its normalisation, the layer's output rows: the prompt's rows in one array, the samples' in the other. -/
module

public import proofs.«01_k».proof.Defs
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Run9
public import proofs.«01_k».proof.Proof.Call6
public import Idealize.ShloMosaic.Lib.Pipeline.ValueKit
public import Idealize.ShloMosaic.Lib.Pointwise
public import Idealize.ShloMosaic.Lib.Claim
public import Idealize.ShloMosaic.Lib.StableHlo.Run
public import Idealize.ShloMosaic.Lib.Quiescent
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof.Call9

/-- The printed program and the one read over the reals have the same bodies. -/
theorem bodies_eq : Cert.Kernel9.defs₀ (F := Bits) = Cert.Kernel9Ideal.defs₀ (F := Bits) := by
  unfold Cert.Kernel9.defs₀ Cert.Kernel9Ideal.defs₀
  refine congrArg Defs.onTc ?_
  funext l a
  match l, a with
  | ⟨0, _⟩, _ => rfl

theorem defs_eq : Cert.Kernel9.defs (F := Bits) = Cert.Kernel9Ideal.defs (F := Bits) :=
  congrArg (Pipeline.defs Cert.Kernel9Ideal.pcfgs) bodies_eq

set_option maxHeartbeats 4000000 in
theorem frame_p : Cert.quiescent_Kernel9 := fun m ρ _ => by
  have h := Run9.unchanged (F := Bits) m ρ
  rw [← defs_eq] at h
  exact h
theorem frame_pi : Cert.quiescent_Kernel9Ideal := fun m ρ _ => Run9.unchanged (F := Ideal) m ρ
theorem frame_ri : Cert.quiescent_Reference9Ideal := fun m ρ _ =>
  (θ_run Cert.Reference9Ideal.defs _ _).mono (fun r h => ⟨fun c => (h c).2.2,
      sem_eq_zero_of_no_sems (by decide) r.2⟩)
    (Cert.Reference9Ideal.Value.run (F := Ideal) m ρ)
theorem preserves : Cert.preserves_Kernel9_Kernel9Ideal := trivial

open Cert.Kernel9Ideal Cert.Kernel9Ideal.Gen Run9

variable (m : (ℓ : Loc nD τ sig) → Buf (Elt Ideal) ℓ) (ρ : Dev nD → PrngReg)

/-- The prompt's rows of the normalised sums. -/
def Gp (X mix : FVec Ideal S8448x4096 .f32) (g b : FVec Ideal S1x4096 .f32) : FVec Ideal S8192x4096 .f32 := fun i =>
  Call6.G X mix g b (ix2 ⟨(i 0).val, by
    have h : (i 0).val < 8192 := (i 0).isLt
    omega⟩ (i 1))

/-- The samples' rows of the normalised sums. -/
def Gs (X mix : FVec Ideal S8448x4096 .f32) (g b : FVec Ideal S1x4096 .f32) : FVec Ideal S256x4096 .f32 := fun i =>
  Call6.G X mix g b (ix2 ⟨8192 + (i 0).val, by
    have h : (i 0).val < 256 := (i 0).isLt
    omega⟩ (i 1))

theorem slice_p (z : FVec Ideal S8448x4096 .f32) (h) : extractStridedSlice Cert.Reference9Ideal.S8192x4096 ![0, 0] z h = fun i : S8192x4096.Idx => z (ix2 ⟨(i 0).val, by
    have h : (i 0).val < 8192 := (i 0).isLt
    omega⟩ (i 1)) := by
  funext i
  pointwise

theorem slice_s (z : FVec Ideal S8448x4096 .f32) (h) : extractStridedSlice Cert.Reference9Ideal.S256x4096 ![8192, 0] z h = fun i : S256x4096.Idx => z (ix2 ⟨8192 + (i 0).val, by
    have h : (i 0).val < 256 := (i 0).isLt
    omega⟩ (i 1)) := by
  funext i
  pointwise

set_option maxHeartbeats 1000000 in
/-- The reference's normalised sums. -/
theorem ref_eq (X mix : FVec Ideal S8448x4096 .f32) (g b : FVec Ideal S1x4096 .f32) :
    (addf (mulf (mulf (subf (addf (mulf (broadcastInDim Cert.Reference9Ideal.S8448x4096 ![] Cert.Reference9Ideal.Facts₀.bcast_S_S8448x4096 (constant Cert.Reference9Ideal.S_ .f32 0x3F9837F0#32)) X) mix) (broadcastInDim Cert.Reference9Ideal.S8448x4096 ![0, 1] Cert.Reference9Ideal.Facts₀.bcast_S8448x1_S8448x4096_0_1 (Host.divf (broadcastInDim Cert.Reference9Ideal.S8448x1 ![0] Cert.Reference9Ideal.Facts₀.bcast_S8448_S8448x1_0 (Host.reduceAdd (addf (mulf (broadcastInDim Cert.Reference9Ideal.S8448x4096 ![] Cert.Reference9Ideal.Facts₀.bcast_S_S8448x4096 (constant Cert.Reference9Ideal.S_ .f32 0x3F9837F0#32)) X) mix) (constant Cert.Reference9Ideal.S_ .f32 0x00000000#32) Cert.Reference9Ideal.Facts₀.reducesTo_S8448x4096_S8448_d1 Cert.Reference9Ideal.Facts₀.h_S_)) (broadcastInDim Cert.Reference9Ideal.S8448x1 ![] Cert.Reference9Ideal.Facts₀.bcast_S_S8448x1 (constant Cert.Reference9Ideal.S_ .f32 0x45800000#32))))) (broadcastInDim Cert.Reference9Ideal.S8448x4096 ![0, 1] Cert.Reference9Ideal.Facts₀.bcast_S8448x1_S8448x4096_0_1 (Host.rsqrt (addf (Host.divf (broadcastInDim Cert.Reference9Ideal.S8448x1 ![0] Cert.Reference9Ideal.Facts₀.bcast_S8448_S8448x1_0 (Host.reduceAdd (mulf (subf (addf (mulf (broadcastInDim Cert.Reference9Ideal.S8448x4096 ![] Cert.Reference9Ideal.Facts₀.bcast_S_S8448x4096 (constant Cert.Reference9Ideal.S_ .f32 0x3F9837F0#32)) X) mix) (broadcastInDim Cert.Reference9Ideal.S8448x4096 ![0, 1] Cert.Reference9Ideal.Facts₀.bcast_S8448x1_S8448x4096_0_1 (Host.divf (broadcastInDim Cert.Reference9Ideal.S8448x1 ![0] Cert.Reference9Ideal.Facts₀.bcast_S8448_S8448x1_0 (Host.reduceAdd (addf (mulf (broadcastInDim Cert.Reference9Ideal.S8448x4096 ![] Cert.Reference9Ideal.Facts₀.bcast_S_S8448x4096 (constant Cert.Reference9Ideal.S_ .f32 0x3F9837F0#32)) X) mix) (constant Cert.Reference9Ideal.S_ .f32 0x00000000#32) Cert.Reference9Ideal.Facts₀.reducesTo_S8448x4096_S8448_d1 Cert.Reference9Ideal.Facts₀.h_S_)) (broadcastInDim Cert.Reference9Ideal.S8448x1 ![] Cert.Reference9Ideal.Facts₀.bcast_S_S8448x1 (constant Cert.Reference9Ideal.S_ .f32 0x45800000#32))))) (subf (addf (mulf (broadcastInDim Cert.Reference9Ideal.S8448x4096 ![] Cert.Reference9Ideal.Facts₀.bcast_S_S8448x4096 (constant Cert.Reference9Ideal.S_ .f32 0x3F9837F0#32)) X) mix) (broadcastInDim Cert.Reference9Ideal.S8448x4096 ![0, 1] Cert.Reference9Ideal.Facts₀.bcast_S8448x1_S8448x4096_0_1 (Host.divf (broadcastInDim Cert.Reference9Ideal.S8448x1 ![0] Cert.Reference9Ideal.Facts₀.bcast_S8448_S8448x1_0 (Host.reduceAdd (addf (mulf (broadcastInDim Cert.Reference9Ideal.S8448x4096 ![] Cert.Reference9Ideal.Facts₀.bcast_S_S8448x4096 (constant Cert.Reference9Ideal.S_ .f32 0x3F9837F0#32)) X) mix) (constant Cert.Reference9Ideal.S_ .f32 0x00000000#32) Cert.Reference9Ideal.Facts₀.reducesTo_S8448x4096_S8448_d1 Cert.Reference9Ideal.Facts₀.h_S_)) (broadcastInDim Cert.Reference9Ideal.S8448x1 ![] Cert.Reference9Ideal.Facts₀.bcast_S_S8448x1 (constant Cert.Reference9Ideal.S_ .f32 0x45800000#32)))))) (constant Cert.Reference9Ideal.S_ .f32 0x00000000#32) Cert.Reference9Ideal.Facts₀.reducesTo_S8448x4096_S8448_d1 Cert.Reference9Ideal.Facts₀.h_S_)) (broadcastInDim Cert.Reference9Ideal.S8448x1 ![] Cert.Reference9Ideal.Facts₀.bcast_S_S8448x1 (constant Cert.Reference9Ideal.S_ .f32 0x45800000#32))) (broadcastInDim Cert.Reference9Ideal.S8448x1 ![] Cert.Reference9Ideal.Facts₀.bcast_S_S8448x1 (constant Cert.Reference9Ideal.S_ .f32 0x3727C5AC#32)))))) (broadcastInDim Cert.Reference9Ideal.S8448x4096 ![0, 1] Cert.Reference9Ideal.Facts₀.bcast_S1x4096_S8448x4096_0_1 (broadcastInDim Cert.Reference9Ideal.S1x4096 ![1] Cert.Reference9Ideal.Facts₀.bcast_S4096_S1x4096_1 (shapeCast _ g Cert.Reference9Ideal.Facts₀.shapeCasts_S1x4096_S4096)))) (broadcastInDim Cert.Reference9Ideal.S8448x4096 ![0, 1] Cert.Reference9Ideal.Facts₀.bcast_S1x4096_S8448x4096_0_1 (broadcastInDim Cert.Reference9Ideal.S1x4096 ![1] Cert.Reference9Ideal.Facts₀.bcast_S4096_S1x4096_1 (shapeCast _ b Cert.Reference9Ideal.Facts₀.shapeCasts_S1x4096_S4096))))
      = Call6.G X mix g b := by
  funext i
  unfold Call6.G Call6.norm Call6.mean Call6.resid
  pointwise

set_option maxHeartbeats 1000000 in
/-- What a point computes of its blocks: each row's residual sum, normalised. -/
theorem pay_eq (x y : FVec Ideal S256x4096 .f32) (g b : FVec Ideal S1x4096 .f32) :
    Run9.pay (F := Ideal) x y g b = fun j => Call6.norm (fun k => (FloatOps.ofBits (F := Ideal) .f32 0x3F9837F0#32) * x (ix2 (j 0) k) + y (ix2 (j 0) k)) (fun k => g (ix2 0 k)) (fun k => b (ix2 0 k)) (j 1) := by
  unfold Run9.pay
  dsimp only
  funext j
  unfold Call6.norm Call6.mean
  pointwise

/-! The blocks. -/

theorem idx : ∀ t : Fin cfg0.N, win0_0.index t = ![(grid0.coords t 0).val, 0] ∧ win0_1.index t = ![(grid0.coords t 0).val, 0]
    ∧ win0_2.index t = ![0, 0] ∧ win0_3.index t = ![0, 0] ∧ win0_5.index t = ![0, 0] :=
  (by decide +kernel : ∀ t : Fin grid0.N, _)

/-- The block a point writes back of the prompt's rows is the one its last store of them was for. -/
theorem idx_p : ∀ t : Fin cfg0.N, win0_4.index t = ![(grid0.coords (lastp t) 0).val, 0] :=
  (by decide +kernel : ∀ t : Fin grid0.N, _)

theorem idx_s : ∀ t : Fin cfg0.N, (cfg0.win 5).flush t = true → (grid0.coords t 0).val = 32 :=
  (by decide +kernel : ∀ t : Fin grid0.N, win0_5.flush t = true → (grid0.coords t 0).val = 32)

theorem entry_g (c : Dev nD) : V m c main_v1 = fun j : S1x4096.Idx => (m ((c : Thread nD τ).loc main_arg2)) (ix2 0 (j 1)) := by
  entry_read
  funext j
  pointwise

theorem entry_b (c : Dev nD) : V m c main_v3 = fun j : S1x4096.Idx => (m ((c : Thread nD τ).loc main_arg3)) (ix2 0 (j 1)) := by
  entry_read
  funext j
  pointwise

theorem read_g (c : Dev nD) (t : Fin cfg0.N) : iblk m c 2 t = fun j : S1x4096.Idx => (m ((c : Thread nD τ).loc main_arg2)) (ix2 0 (j 1)) := by
  obtain ⟨-, -, e, -⟩ := idx t
  funext j
  refine (congrFun (entry_g m c) _).trans ?_
  blk_ext [e]

theorem read_b (c : Dev nD) (t : Fin cfg0.N) : iblk m c 3 t = fun j : S1x4096.Idx => (m ((c : Thread nD τ).loc main_arg3)) (ix2 0 (j 1)) := by
  obtain ⟨-, -, -, e, -⟩ := idx t
  funext j
  refine (congrFun (entry_b m c) _).trans ?_
  blk_ext [e]

theorem read_mix (c : Dev nD) (t : Fin cfg0.N) : iblk m c 0 t = Call6.R (m ((c : Thread nD τ).loc main_arg1)) (grid0.coords t) := by
  obtain ⟨e, -⟩ := idx t
  funext j
  refine (congrFun (V_main_arg1 m c) _).trans ?_
  unfold Call6.R
  blk_ext [e]

theorem read_x (c : Dev nD) (t : Fin cfg0.N) : iblk m c 1 t = Call6.R (m ((c : Thread nD τ).loc main_arg0)) (grid0.coords t) := by
  obtain ⟨-, e, -⟩ := idx t
  funext j
  refine (congrFun (V_main_arg0 m c) _).trans ?_
  unfold Call6.R
  blk_ext [e]

/-- A point's rows are the normalised sums of its rows. -/
theorem rows_eq (c : Dev nD) (t : Fin cfg0.N) : rowsAt m c t
    = Call6.R (Call6.G (m ((c : Thread nD τ).loc main_arg0)) (m ((c : Thread nD τ).loc main_arg1)) (m ((c : Thread nD τ).loc main_arg2)) (m ((c : Thread nD τ).loc main_arg3))) (grid0.coords t) := by
  unfold rowsAt
  frame_out
  rw [pay_eq, read_mix, read_x, read_g, read_b]
  rfl

/-- The prompt's rows after the run. -/
theorem final4 (c : Dev nD) : (dats m 0 c).arrAt 4 cfg0.N
    = Gp (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := idx_p t
  blk_simp
  rw [after0_4, rows_eq]
  unfold Gp Call6.R
  generalize Call6.G _ _ _ _ = z
  blk_point [e]

/-- The samples' rows after the run. -/
theorem final5 (c : Dev nD) : (dats m 0 c).arrAt 5 cfg0.N
    = Gs (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, e⟩ := idx t
  have h := idx_s t hf
  blk_simp
  rw [after0_5, rows_eq]
  unfold Gs Call6.R
  generalize Call6.G _ _ _ _ = z
  blk_point [e, h]

theorem run_kernel : θ_run defs (onTc (τ := τ) (main (F := Ideal))) ⟨m, fun _ => 0, ρ⟩ fun r => ∀ c : Dev nD,
    r.2.mem ((c : Thread nD τ).loc main_v4_0) = Gp (m ((c : Thread nD τ).loc main_arg0)) (m ((c : Thread nD τ).loc main_arg1)) (m ((c : Thread nD τ).loc main_arg2)) (m ((c : Thread nD τ).loc main_arg3))
    ∧ r.2.mem ((c : Thread nD τ).loc main_v4_1) = Gs (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

theorem algebraic : Cert.algebraic_Kernel9Ideal_Reference9Ideal := by
  intro m ρ m' ρ' _ hagree
  refine ⟨fun c => Gp (m ((c : Thread nD τ).loc main_arg0)) (m ((c : Thread nD τ).loc main_arg1)) (m ((c : Thread nD τ).loc main_arg2)) (m ((c : Thread nD τ).loc main_arg3)), fun c => Gs (m ((c : Thread nD τ).loc main_arg0)) (m ((c : Thread nD τ).loc main_arg1)) (m ((c : Thread nD τ).loc main_arg2)) (m ((c : Thread nD τ).loc main_arg3)), run_kernel m ρ, ?_⟩
  refine (θ_run Cert.Reference9Ideal.defs _ _).mono (fun _ h c => ?_) (Cert.Reference9Ideal.Value.run (F := Ideal) m' ρ')
  obtain ⟨ha, hb, hc, hd⟩ := hagree c
  refine ⟨(h c).1.trans ?_, (h c).2.1.trans ?_, (h c).2.2⟩
  · rw [ha, hb, hc, hd, ref_eq]
    exact slice_p _ _
  · rw [ha, hb, hc, hd, ref_eq]
    exact slice_s _ _

end Cert.Proof.Call9

end
-- ==== Proof.lean ====
/- The certificate's claim, assembled from the proofs of the calls. -/
module

public import proofs.«01_k».proof.Defs
public import proofs.«01_k».proof.Proof.Call10
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9

@[expose] public section

namespace Cert.Proof

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel10.Gen.facts, Cert.Kernel10Ideal.Gen.facts, Cert.Reference10Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts,
    Call2.frame_p, Call2.frame_pi, Call2.frame_ri, Call3.frame_p, Call3.frame_pi, Call3.frame_ri, Call10.frame_p, Call10.frame_pi, Call10.frame_ri, Call4.frame_p, Call4.frame_pi, Call4.frame_ri, Call5.frame_p, Call5.frame_pi, Call5.frame_ri, Call6.frame_p, Call6.frame_pi, Call6.frame_ri, Call7.frame_p, Call7.frame_pi, Call7.frame_ri, Call8.frame_p, Call8.frame_pi, Call8.frame_ri, Call9.frame_p, Call9.frame_pi, Call9.frame_ri,
    Call2.preserves, Call2.algebraic, Call3.preserves, Call3.algebraic, Call10.preserves, Call10.algebraic, Call4.preserves, Call4.algebraic, Call5.preserves, Call5.algebraic, Call6.preserves, Call6.algebraic, Call7.preserves, Call7.algebraic, Call8.preserves, Call8.algebraic, Call9.preserves, Call9.algebraic⟩

end Cert.Proof
